-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S32x2x16x512 : Shape := ⟨4, ![32, 2, 16, 512]⟩
abbrev S2x16x512 : Shape := ⟨3, ![2, 16, 512]⟩
abbrev S32x2 : Shape := ⟨2, ![32, 2]⟩
abbrev S_ : Shape := ⟨0, ![]⟩
abbrev S1x1 : Shape := ⟨2, ![1, 1]⟩
abbrev S1x1x16x512 : Shape := ⟨4, ![1, 1, 16, 512]⟩
abbrev S16x512 : Shape := ⟨2, ![16, 512]⟩
abbrev S32x1x16x512 : Shape := ⟨4, ![32, 1, 16, 512]⟩
abbrev S32x16x512 : Shape := ⟨3, ![32, 16, 512]⟩
abbrev S1x16x512 : Shape := ⟨3, ![1, 16, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S1024x512, .f32⟩
  | .local _ .vmem, ⟨0, _⟩ => ⟨S1024x512, .bf16⟩
  | .local _ .vmem, ⟨1, _⟩ => ⟨S1024x512, .f32⟩
  | .local _ .vmem, ⟨2, _⟩ => ⟨S32x2x16x512, .bf16⟩
  | .local _ .vmem, ⟨3, _⟩ => ⟨S32x2x16x512, .bf16⟩
  | .local _ .vmem, ⟨4, _⟩ => ⟨S2x16x512, .bf16⟩
  | .local _ .vmem, ⟨5, _⟩ => ⟨S32x2x16x512, .bf16⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 258 → Bool
  | ⟨i, _⟩ => dmaSemScopedAt i

abbrev sig : RefSig :=
  (ofTc nBuf bufTy 1 258 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_130 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c1_i32_130
  let c32_i32_131 : BitVec 32 := 32#32
  let v135 : BitVec 32 := Scalar.remsi v134 c32_i32_131
  let c0_i32_135 : BitVec 32 := 0#32
  ![v135.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_134 : BitVec 32 := 0#32
  ![v2.toNat, 0]
def k0_off3 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let c0_i32_138 : BitVec 32 := 0#32
  let c0_i32_139 : BitVec 32 := 0#32
  ![v2.toNat, 0, 0, 0]
def k0_off4 (d0 : Dev nD) (c1_i32_130 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c1_i32_130
  let c32_i32_131 : BitVec 32 := 32#32
  let v135 : BitVec 32 := Scalar.remsi v134 c32_i32_131
  let c0_i32_132 : BitVec 32 := 0#32
  let c0_i32_140 : BitVec 32 := 0#32
  let c0_i32_141 : BitVec 32 := 0#32
  ![v135.toNat, 0, 0, 0]
def k0_dev32 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_130 : BitVec 32 := 1#32
  let v134 : BitVec 32 := Scalar.addi v2 c1_i32_130
  let c32_i32_131 : BitVec 32 := 32#32
  let v135 : BitVec 32 := Scalar.remsi v134 c32_i32_131
  let c1_i32_136 : BitVec 32 := 1#32
  let v136 : BitVec 32 := Scalar.muli v135 c1_i32_136
  let v137 : BitVec 32 := Scalar.addi c0_i32_137 v136
  v137.toNat
def k0_dev33 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_142 : BitVec 32 := 2#32
  let v146 : BitVec 32 := Scalar.addi v2 c2_i32_142
  let c32_i32_143 : BitVec 32 := 32#32
  let v147 : BitVec 32 := Scalar.remsi v146 c32_i32_143
  let c1_i32_148 : BitVec 32 := 1#32
  let v148 : BitVec 32 := Scalar.muli v147 c1_i32_148
  let v149 : BitVec 32 := Scalar.addi c0_i32_149 v148
  v149.toNat
def k0_dev34 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_154 : BitVec 32 := 3#32
  let v158 : BitVec 32 := Scalar.addi v2 c3_i32_154
  let c32_i32_155 : BitVec 32 := 32#32
  let v159 : BitVec 32 := Scalar.remsi v158 c32_i32_155
  let c1_i32_160 : BitVec 32 := 1#32
  let v160 : BitVec 32 := Scalar.muli v159 c1_i32_160
  let v161 : BitVec 32 := Scalar.addi c0_i32_161 v160
  v161.toNat
def k0_dev35 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_166 : BitVec 32 := 4#32
  let v170 : BitVec 32 := Scalar.addi v2 c4_i32_166
  let c32_i32_167 : BitVec 32 := 32#32
  let v171 : BitVec 32 := Scalar.remsi v170 c32_i32_167
  let c1_i32_172 : BitVec 32 := 1#32
  let v172 : BitVec 32 := Scalar.muli v171 c1_i32_172
  let v173 : BitVec 32 := Scalar.addi c0_i32_173 v172
  v173.toNat
def k0_dev36 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_178 : BitVec 32 := 5#32
  let v182 : BitVec 32 := Scalar.addi v2 c5_i32_178
  let c32_i32_179 : BitVec 32 := 32#32
  let v183 : BitVec 32 := Scalar.remsi v182 c32_i32_179
  let c1_i32_184 : BitVec 32 := 1#32
  let v184 : BitVec 32 := Scalar.muli v183 c1_i32_184
  let v185 : BitVec 32 := Scalar.addi c0_i32_185 v184
  v185.toNat
def k0_dev37 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_190 : BitVec 32 := 6#32
  let v194 : BitVec 32 := Scalar.addi v2 c6_i32_190
  let c32_i32_191 : BitVec 32 := 32#32
  let v195 : BitVec 32 := Scalar.remsi v194 c32_i32_191
  let c1_i32_196 : BitVec 32 := 1#32
  let v196 : BitVec 32 := Scalar.muli v195 c1_i32_196
  let v197 : BitVec 32 := Scalar.addi c0_i32_197 v196
  v197.toNat
def k0_dev38 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_202 : BitVec 32 := 7#32
  let v206 : BitVec 32 := Scalar.addi v2 c7_i32_202
  let c32_i32_203 : BitVec 32 := 32#32
  let v207 : BitVec 32 := Scalar.remsi v206 c32_i32_203
  let c1_i32_208 : BitVec 32 := 1#32
  let v208 : BitVec 32 := Scalar.muli v207 c1_i32_208
  let v209 : BitVec 32 := Scalar.addi c0_i32_209 v208
  v209.toNat
def k0_dev39 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_214 : BitVec 32 := 8#32
  let v218 : BitVec 32 := Scalar.addi v2 c8_i32_214
  let c32_i32_215 : BitVec 32 := 32#32
  let v219 : BitVec 32 := Scalar.remsi v218 c32_i32_215
  let c1_i32_220 : BitVec 32 := 1#32
  let v220 : BitVec 32 := Scalar.muli v219 c1_i32_220
  let v221 : BitVec 32 := Scalar.addi c0_i32_221 v220
  v221.toNat
def k0_dev40 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_226 : BitVec 32 := 9#32
  let v230 : BitVec 32 := Scalar.addi v2 c9_i32_226
  let c32_i32_227 : BitVec 32 := 32#32
  let v231 : BitVec 32 := Scalar.remsi v230 c32_i32_227
  let c1_i32_232 : BitVec 32 := 1#32
  let v232 : BitVec 32 := Scalar.muli v231 c1_i32_232
  let v233 : BitVec 32 := Scalar.addi c0_i32_233 v232
  v233.toNat
def k0_dev41 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_238 : BitVec 32 := 10#32
  let v242 : BitVec 32 := Scalar.addi v2 c10_i32_238
  let c32_i32_239 : BitVec 32 := 32#32
  let v243 : BitVec 32 := Scalar.remsi v242 c32_i32_239
  let c1_i32_244 : BitVec 32 := 1#32
  let v244 : BitVec 32 := Scalar.muli v243 c1_i32_244
  let v245 : BitVec 32 := Scalar.addi c0_i32_245 v244
  v245.toNat
def k0_dev42 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_250 : BitVec 32 := 11#32
  let v254 : BitVec 32 := Scalar.addi v2 c11_i32_250
  let c32_i32_251 : BitVec 32 := 32#32
  let v255 : BitVec 32 := Scalar.remsi v254 c32_i32_251
  let c1_i32_256 : BitVec 32 := 1#32
  let v256 : BitVec 32 := Scalar.muli v255 c1_i32_256
  let v257 : BitVec 32 := Scalar.addi c0_i32_257 v256
  v257.toNat
def k0_dev43 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_262 : BitVec 32 := 12#32
  let v266 : BitVec 32 := Scalar.addi v2 c12_i32_262
  let c32_i32_263 : BitVec 32 := 32#32
  let v267 : BitVec 32 := Scalar.remsi v266 c32_i32_263
  let c1_i32_268 : BitVec 32 := 1#32
  let v268 : BitVec 32 := Scalar.muli v267 c1_i32_268
  let v269 : BitVec 32 := Scalar.addi c0_i32_269 v268
  v269.toNat
def k0_dev44 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_274 : BitVec 32 := 13#32
  let v278 : BitVec 32 := Scalar.addi v2 c13_i32_274
  let c32_i32_275 : BitVec 32 := 32#32
  let v279 : BitVec 32 := Scalar.remsi v278 c32_i32_275
  let c1_i32_280 : BitVec 32 := 1#32
  let v280 : BitVec 32 := Scalar.muli v279 c1_i32_280
  let v281 : BitVec 32 := Scalar.addi c0_i32_281 v280
  v281.toNat
def k0_dev45 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_286 : BitVec 32 := 14#32
  let v290 : BitVec 32 := Scalar.addi v2 c14_i32_286
  let c32_i32_287 : BitVec 32 := 32#32
  let v291 : BitVec 32 := Scalar.remsi v290 c32_i32_287
  let c1_i32_292 : BitVec 32 := 1#32
  let v292 : BitVec 32 := Scalar.muli v291 c1_i32_292
  let v293 : BitVec 32 := Scalar.addi c0_i32_293 v292
  v293.toNat
def k0_dev46 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_298 : BitVec 32 := 15#32
  let v302 : BitVec 32 := Scalar.addi v2 c15_i32_298
  let c32_i32_299 : BitVec 32 := 32#32
  let v303 : BitVec 32 := Scalar.remsi v302 c32_i32_299
  let c1_i32_304 : BitVec 32 := 1#32
  let v304 : BitVec 32 := Scalar.muli v303 c1_i32_304
  let v305 : BitVec 32 := Scalar.addi c0_i32_305 v304
  v305.toNat
def k0_dev47 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_310 : BitVec 32 := 16#32
  let v314 : BitVec 32 := Scalar.addi v2 c16_i32_310
  let c32_i32_311 : BitVec 32 := 32#32
  let v315 : BitVec 32 := Scalar.remsi v314 c32_i32_311
  let c1_i32_316 : BitVec 32 := 1#32
  let v316 : BitVec 32 := Scalar.muli v315 c1_i32_316
  let v317 : BitVec 32 := Scalar.addi c0_i32_317 v316
  v317.toNat
def k0_dev48 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_322 : BitVec 32 := 17#32
  let v326 : BitVec 32 := Scalar.addi v2 c17_i32_322
  let c32_i32_323 : BitVec 32 := 32#32
  let v327 : BitVec 32 := Scalar.remsi v326 c32_i32_323
  let c1_i32_328 : BitVec 32 := 1#32
  let v328 : BitVec 32 := Scalar.muli v327 c1_i32_328
  let v329 : BitVec 32 := Scalar.addi c0_i32_329 v328
  v329.toNat
def k0_dev49 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_334 : BitVec 32 := 18#32
  let v338 : BitVec 32 := Scalar.addi v2 c18_i32_334
  let c32_i32_335 : BitVec 32 := 32#32
  let v339 : BitVec 32 := Scalar.remsi v338 c32_i32_335
  let c1_i32_340 : BitVec 32 := 1#32
  let v340 : BitVec 32 := Scalar.muli v339 c1_i32_340
  let v341 : BitVec 32 := Scalar.addi c0_i32_341 v340
  v341.toNat
def k0_dev50 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_346 : BitVec 32 := 19#32
  let v350 : BitVec 32 := Scalar.addi v2 c19_i32_346
  let c32_i32_347 : BitVec 32 := 32#32
  let v351 : BitVec 32 := Scalar.remsi v350 c32_i32_347
  let c1_i32_352 : BitVec 32 := 1#32
  let v352 : BitVec 32 := Scalar.muli v351 c1_i32_352
  let v353 : BitVec 32 := Scalar.addi c0_i32_353 v352
  v353.toNat
def k0_dev51 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_358 : BitVec 32 := 20#32
  let v362 : BitVec 32 := Scalar.addi v2 c20_i32_358
  let c32_i32_359 : BitVec 32 := 32#32
  let v363 : BitVec 32 := Scalar.remsi v362 c32_i32_359
  let c1_i32_364 : BitVec 32 := 1#32
  let v364 : BitVec 32 := Scalar.muli v363 c1_i32_364
  let v365 : BitVec 32 := Scalar.addi c0_i32_365 v364
  v365.toNat
def k0_dev52 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_370 : BitVec 32 := 21#32
  let v374 : BitVec 32 := Scalar.addi v2 c21_i32_370
  let c32_i32_371 : BitVec 32 := 32#32
  let v375 : BitVec 32 := Scalar.remsi v374 c32_i32_371
  let c1_i32_376 : BitVec 32 := 1#32
  let v376 : BitVec 32 := Scalar.muli v375 c1_i32_376
  let v377 : BitVec 32 := Scalar.addi c0_i32_377 v376
  v377.toNat
def k0_dev53 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_382 : BitVec 32 := 22#32
  let v386 : BitVec 32 := Scalar.addi v2 c22_i32_382
  let c32_i32_383 : BitVec 32 := 32#32
  let v387 : BitVec 32 := Scalar.remsi v386 c32_i32_383
  let c1_i32_388 : BitVec 32 := 1#32
  let v388 : BitVec 32 := Scalar.muli v387 c1_i32_388
  let v389 : BitVec 32 := Scalar.addi c0_i32_389 v388
  v389.toNat
def k0_dev54 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_394 : BitVec 32 := 23#32
  let v398 : BitVec 32 := Scalar.addi v2 c23_i32_394
  let c32_i32_395 : BitVec 32 := 32#32
  let v399 : BitVec 32 := Scalar.remsi v398 c32_i32_395
  let c1_i32_400 : BitVec 32 := 1#32
  let v400 : BitVec 32 := Scalar.muli v399 c1_i32_400
  let v401 : BitVec 32 := Scalar.addi c0_i32_401 v400
  v401.toNat
def k0_dev55 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_406 : BitVec 32 := 24#32
  let v410 : BitVec 32 := Scalar.addi v2 c24_i32_406
  let c32_i32_407 : BitVec 32 := 32#32
  let v411 : BitVec 32 := Scalar.remsi v410 c32_i32_407
  let c1_i32_412 : BitVec 32 := 1#32
  let v412 : BitVec 32 := Scalar.muli v411 c1_i32_412
  let v413 : BitVec 32 := Scalar.addi c0_i32_413 v412
  v413.toNat
def k0_dev56 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_418 : BitVec 32 := 25#32
  let v422 : BitVec 32 := Scalar.addi v2 c25_i32_418
  let c32_i32_419 : BitVec 32 := 32#32
  let v423 : BitVec 32 := Scalar.remsi v422 c32_i32_419
  let c1_i32_424 : BitVec 32 := 1#32
  let v424 : BitVec 32 := Scalar.muli v423 c1_i32_424
  let v425 : BitVec 32 := Scalar.addi c0_i32_425 v424
  v425.toNat
def k0_dev57 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_430 : BitVec 32 := 26#32
  let v434 : BitVec 32 := Scalar.addi v2 c26_i32_430
  let c32_i32_431 : BitVec 32 := 32#32
  let v435 : BitVec 32 := Scalar.remsi v434 c32_i32_431
  let c1_i32_436 : BitVec 32 := 1#32
  let v436 : BitVec 32 := Scalar.muli v435 c1_i32_436
  let v437 : BitVec 32 := Scalar.addi c0_i32_437 v436
  v437.toNat
def k0_dev58 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_442 : BitVec 32 := 27#32
  let v446 : BitVec 32 := Scalar.addi v2 c27_i32_442
  let c32_i32_443 : BitVec 32 := 32#32
  let v447 : BitVec 32 := Scalar.remsi v446 c32_i32_443
  let c1_i32_448 : BitVec 32 := 1#32
  let v448 : BitVec 32 := Scalar.muli v447 c1_i32_448
  let v449 : BitVec 32 := Scalar.addi c0_i32_449 v448
  v449.toNat
def k0_dev59 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_454 : BitVec 32 := 28#32
  let v458 : BitVec 32 := Scalar.addi v2 c28_i32_454
  let c32_i32_455 : BitVec 32 := 32#32
  let v459 : BitVec 32 := Scalar.remsi v458 c32_i32_455
  let c1_i32_460 : BitVec 32 := 1#32
  let v460 : BitVec 32 := Scalar.muli v459 c1_i32_460
  let v461 : BitVec 32 := Scalar.addi c0_i32_461 v460
  v461.toNat
def k0_dev60 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_466 : BitVec 32 := 29#32
  let v470 : BitVec 32 := Scalar.addi v2 c29_i32_466
  let c32_i32_467 : BitVec 32 := 32#32
  let v471 : BitVec 32 := Scalar.remsi v470 c32_i32_467
  let c1_i32_472 : BitVec 32 := 1#32
  let v472 : BitVec 32 := Scalar.muli v471 c1_i32_472
  let v473 : BitVec 32 := Scalar.addi c0_i32_473 v472
  v473.toNat
def k0_dev61 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_478 : BitVec 32 := 30#32
  let v482 : BitVec 32 := Scalar.addi v2 c30_i32_478
  let c32_i32_479 : BitVec 32 := 32#32
  let v483 : BitVec 32 := Scalar.remsi v482 c32_i32_479
  let c1_i32_484 : BitVec 32 := 1#32
  let v484 : BitVec 32 := Scalar.muli v483 c1_i32_484
  let v485 : BitVec 32 := Scalar.addi c0_i32_485 v484
  v485.toNat
def k0_dev62 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_490 : BitVec 32 := 31#32
  let v494 : BitVec 32 := Scalar.addi v2 c31_i32_490
  let c32_i32_491 : BitVec 32 := 32#32
  let v495 : BitVec 32 := Scalar.remsi v494 c32_i32_491
  let c1_i32_496 : BitVec 32 := 1#32
  let v496 : BitVec 32 := Scalar.muli v495 c1_i32_496
  let v497 : BitVec 32 := Scalar.addi c0_i32_497 v496
  v497.toNat
def k0_off5 (d0 : Dev nD) (c1_i32_502 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v506 : BitVec 32 := Scalar.addi v2 c1_i32_502
  let c32_i32_503 : BitVec 32 := 32#32
  let v507 : BitVec 32 := Scalar.remsi v506 c32_i32_503
  let c1_i32_507 : BitVec 32 := 1#32
  ![v507.toNat, 1]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_506 : BitVec 32 := 1#32
  ![v2.toNat, 1]
def k0_off7 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_505 : BitVec 32 := 1#32
  let c0_i32_510 : BitVec 32 := 0#32
  let c0_i32_511 : BitVec 32 := 0#32
  ![v2.toNat, 1, 0, 0]
def k0_off8 (d0 : Dev nD) (c1_i32_502 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v506 : BitVec 32 := Scalar.addi v2 c1_i32_502
  let c32_i32_503 : BitVec 32 := 32#32
  let v507 : BitVec 32 := Scalar.remsi v506 c32_i32_503
  let c1_i32_504 : BitVec 32 := 1#32
  let c0_i32_512 : BitVec 32 := 0#32
  let c0_i32_513 : BitVec 32 := 0#32
  ![v507.toNat, 1, 0, 0]
def k0_dev63 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_502 : BitVec 32 := 1#32
  let v506 : BitVec 32 := Scalar.addi v2 c1_i32_502
  let c32_i32_503 : BitVec 32 := 32#32
  let v507 : BitVec 32 := Scalar.remsi v506 c32_i32_503
  let c1_i32_508 : BitVec 32 := 1#32
  let v508 : BitVec 32 := Scalar.muli v507 c1_i32_508
  let v509 : BitVec 32 := Scalar.addi c0_i32_509 v508
  v509.toNat
def k0_dev64 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_514 : BitVec 32 := 2#32
  let v518 : BitVec 32 := Scalar.addi v2 c2_i32_514
  let c32_i32_515 : BitVec 32 := 32#32
  let v519 : BitVec 32 := Scalar.remsi v518 c32_i32_515
  let c1_i32_520 : BitVec 32 := 1#32
  let v520 : BitVec 32 := Scalar.muli v519 c1_i32_520
  let v521 : BitVec 32 := Scalar.addi c0_i32_521 v520
  v521.toNat
def k0_dev65 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_526 : BitVec 32 := 3#32
  let v530 : BitVec 32 := Scalar.addi v2 c3_i32_526
  let c32_i32_527 : BitVec 32 := 32#32
  let v531 : BitVec 32 := Scalar.remsi v530 c32_i32_527
  let c1_i32_532 : BitVec 32 := 1#32
  let v532 : BitVec 32 := Scalar.muli v531 c1_i32_532
  let v533 : BitVec 32 := Scalar.addi c0_i32_533 v532
  v533.toNat
def k0_dev66 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_538 : BitVec 32 := 4#32
  let v542 : BitVec 32 := Scalar.addi v2 c4_i32_538
  let c32_i32_539 : BitVec 32 := 32#32
  let v543 : BitVec 32 := Scalar.remsi v542 c32_i32_539
  let c1_i32_544 : BitVec 32 := 1#32
  let v544 : BitVec 32 := Scalar.muli v543 c1_i32_544
  let v545 : BitVec 32 := Scalar.addi c0_i32_545 v544
  v545.toNat
def k0_dev67 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_550 : BitVec 32 := 5#32
  let v554 : BitVec 32 := Scalar.addi v2 c5_i32_550
  let c32_i32_551 : BitVec 32 := 32#32
  let v555 : BitVec 32 := Scalar.remsi v554 c32_i32_551
  let c1_i32_556 : BitVec 32 := 1#32
  let v556 : BitVec 32 := Scalar.muli v555 c1_i32_556
  let v557 : BitVec 32 := Scalar.addi c0_i32_557 v556
  v557.toNat
def k0_dev68 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_562 : BitVec 32 := 6#32
  let v566 : BitVec 32 := Scalar.addi v2 c6_i32_562
  let c32_i32_563 : BitVec 32 := 32#32
  let v567 : BitVec 32 := Scalar.remsi v566 c32_i32_563
  let c1_i32_568 : BitVec 32 := 1#32
  let v568 : BitVec 32 := Scalar.muli v567 c1_i32_568
  let v569 : BitVec 32 := Scalar.addi c0_i32_569 v568
  v569.toNat
def k0_dev69 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_574 : BitVec 32 := 7#32
  let v578 : BitVec 32 := Scalar.addi v2 c7_i32_574
  let c32_i32_575 : BitVec 32 := 32#32
  let v579 : BitVec 32 := Scalar.remsi v578 c32_i32_575
  let c1_i32_580 : BitVec 32 := 1#32
  let v580 : BitVec 32 := Scalar.muli v579 c1_i32_580
  let v581 : BitVec 32 := Scalar.addi c0_i32_581 v580
  v581.toNat
def k0_dev70 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_586 : BitVec 32 := 8#32
  let v590 : BitVec 32 := Scalar.addi v2 c8_i32_586
  let c32_i32_587 : BitVec 32 := 32#32
  let v591 : BitVec 32 := Scalar.remsi v590 c32_i32_587
  let c1_i32_592 : BitVec 32 := 1#32
  let v592 : BitVec 32 := Scalar.muli v591 c1_i32_592
  let v593 : BitVec 32 := Scalar.addi c0_i32_593 v592
  v593.toNat
def k0_dev71 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_598 : BitVec 32 := 9#32
  let v602 : BitVec 32 := Scalar.addi v2 c9_i32_598
  let c32_i32_599 : BitVec 32 := 32#32
  let v603 : BitVec 32 := Scalar.remsi v602 c32_i32_599
  let c1_i32_604 : BitVec 32 := 1#32
  let v604 : BitVec 32 := Scalar.muli v603 c1_i32_604
  let v605 : BitVec 32 := Scalar.addi c0_i32_605 v604
  v605.toNat
def k0_dev72 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_610 : BitVec 32 := 10#32
  let v614 : BitVec 32 := Scalar.addi v2 c10_i32_610
  let c32_i32_611 : BitVec 32 := 32#32
  let v615 : BitVec 32 := Scalar.remsi v614 c32_i32_611
  let c1_i32_616 : BitVec 32 := 1#32
  let v616 : BitVec 32 := Scalar.muli v615 c1_i32_616
  let v617 : BitVec 32 := Scalar.addi c0_i32_617 v616
  v617.toNat
def k0_dev73 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_622 : BitVec 32 := 11#32
  let v626 : BitVec 32 := Scalar.addi v2 c11_i32_622
  let c32_i32_623 : BitVec 32 := 32#32
  let v627 : BitVec 32 := Scalar.remsi v626 c32_i32_623
  let c1_i32_628 : BitVec 32 := 1#32
  let v628 : BitVec 32 := Scalar.muli v627 c1_i32_628
  let v629 : BitVec 32 := Scalar.addi c0_i32_629 v628
  v629.toNat
def k0_dev74 (d0 : Dev nD) : Nat :=
  let c0_i32_641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_634 : BitVec 32 := 12#32
  let v638 : BitVec 32 := Scalar.addi v2 c12_i32_634
  let c32_i32_635 : BitVec 32 := 32#32
  let v639 : BitVec 32 := Scalar.remsi v638 c32_i32_635
  let c1_i32_640 : BitVec 32 := 1#32
  let v640 : BitVec 32 := Scalar.muli v639 c1_i32_640
  let v641 : BitVec 32 := Scalar.addi c0_i32_641 v640
  v641.toNat
def k0_dev75 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_646 : BitVec 32 := 13#32
  let v650 : BitVec 32 := Scalar.addi v2 c13_i32_646
  let c32_i32_647 : BitVec 32 := 32#32
  let v651 : BitVec 32 := Scalar.remsi v650 c32_i32_647
  let c1_i32_652 : BitVec 32 := 1#32
  let v652 : BitVec 32 := Scalar.muli v651 c1_i32_652
  let v653 : BitVec 32 := Scalar.addi c0_i32_653 v652
  v653.toNat
def k0_dev76 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_658 : BitVec 32 := 14#32
  let v662 : BitVec 32 := Scalar.addi v2 c14_i32_658
  let c32_i32_659 : BitVec 32 := 32#32
  let v663 : BitVec 32 := Scalar.remsi v662 c32_i32_659
  let c1_i32_664 : BitVec 32 := 1#32
  let v664 : BitVec 32 := Scalar.muli v663 c1_i32_664
  let v665 : BitVec 32 := Scalar.addi c0_i32_665 v664
  v665.toNat
def k0_dev77 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_670 : BitVec 32 := 15#32
  let v674 : BitVec 32 := Scalar.addi v2 c15_i32_670
  let c32_i32_671 : BitVec 32 := 32#32
  let v675 : BitVec 32 := Scalar.remsi v674 c32_i32_671
  let c1_i32_676 : BitVec 32 := 1#32
  let v676 : BitVec 32 := Scalar.muli v675 c1_i32_676
  let v677 : BitVec 32 := Scalar.addi c0_i32_677 v676
  v677.toNat
def k0_dev78 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_682 : BitVec 32 := 16#32
  let v686 : BitVec 32 := Scalar.addi v2 c16_i32_682
  let c32_i32_683 : BitVec 32 := 32#32
  let v687 : BitVec 32 := Scalar.remsi v686 c32_i32_683
  let c1_i32_688 : BitVec 32 := 1#32
  let v688 : BitVec 32 := Scalar.muli v687 c1_i32_688
  let v689 : BitVec 32 := Scalar.addi c0_i32_689 v688
  v689.toNat
def k0_dev79 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_694 : BitVec 32 := 17#32
  let v698 : BitVec 32 := Scalar.addi v2 c17_i32_694
  let c32_i32_695 : BitVec 32 := 32#32
  let v699 : BitVec 32 := Scalar.remsi v698 c32_i32_695
  let c1_i32_700 : BitVec 32 := 1#32
  let v700 : BitVec 32 := Scalar.muli v699 c1_i32_700
  let v701 : BitVec 32 := Scalar.addi c0_i32_701 v700
  v701.toNat
def k0_dev80 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_706 : BitVec 32 := 18#32
  let v710 : BitVec 32 := Scalar.addi v2 c18_i32_706
  let c32_i32_707 : BitVec 32 := 32#32
  let v711 : BitVec 32 := Scalar.remsi v710 c32_i32_707
  let c1_i32_712 : BitVec 32 := 1#32
  let v712 : BitVec 32 := Scalar.muli v711 c1_i32_712
  let v713 : BitVec 32 := Scalar.addi c0_i32_713 v712
  v713.toNat
def k0_dev81 (d0 : Dev nD) : Nat :=
  let c0_i32_725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_718 : BitVec 32 := 19#32
  let v722 : BitVec 32 := Scalar.addi v2 c19_i32_718
  let c32_i32_719 : BitVec 32 := 32#32
  let v723 : BitVec 32 := Scalar.remsi v722 c32_i32_719
  let c1_i32_724 : BitVec 32 := 1#32
  let v724 : BitVec 32 := Scalar.muli v723 c1_i32_724
  let v725 : BitVec 32 := Scalar.addi c0_i32_725 v724
  v725.toNat
def k0_dev82 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_730 : BitVec 32 := 20#32
  let v734 : BitVec 32 := Scalar.addi v2 c20_i32_730
  let c32_i32_731 : BitVec 32 := 32#32
  let v735 : BitVec 32 := Scalar.remsi v734 c32_i32_731
  let c1_i32_736 : BitVec 32 := 1#32
  let v736 : BitVec 32 := Scalar.muli v735 c1_i32_736
  let v737 : BitVec 32 := Scalar.addi c0_i32_737 v736
  v737.toNat
def k0_dev83 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_742 : BitVec 32 := 21#32
  let v746 : BitVec 32 := Scalar.addi v2 c21_i32_742
  let c32_i32_743 : BitVec 32 := 32#32
  let v747 : BitVec 32 := Scalar.remsi v746 c32_i32_743
  let c1_i32_748 : BitVec 32 := 1#32
  let v748 : BitVec 32 := Scalar.muli v747 c1_i32_748
  let v749 : BitVec 32 := Scalar.addi c0_i32_749 v748
  v749.toNat
def k0_dev84 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_754 : BitVec 32 := 22#32
  let v758 : BitVec 32 := Scalar.addi v2 c22_i32_754
  let c32_i32_755 : BitVec 32 := 32#32
  let v759 : BitVec 32 := Scalar.remsi v758 c32_i32_755
  let c1_i32_760 : BitVec 32 := 1#32
  let v760 : BitVec 32 := Scalar.muli v759 c1_i32_760
  let v761 : BitVec 32 := Scalar.addi c0_i32_761 v760
  v761.toNat
def k0_dev85 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_766 : BitVec 32 := 23#32
  let v770 : BitVec 32 := Scalar.addi v2 c23_i32_766
  let c32_i32_767 : BitVec 32 := 32#32
  let v771 : BitVec 32 := Scalar.remsi v770 c32_i32_767
  let c1_i32_772 : BitVec 32 := 1#32
  let v772 : BitVec 32 := Scalar.muli v771 c1_i32_772
  let v773 : BitVec 32 := Scalar.addi c0_i32_773 v772
  v773.toNat
def k0_dev86 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_778 : BitVec 32 := 24#32
  let v782 : BitVec 32 := Scalar.addi v2 c24_i32_778
  let c32_i32_779 : BitVec 32 := 32#32
  let v783 : BitVec 32 := Scalar.remsi v782 c32_i32_779
  let c1_i32_784 : BitVec 32 := 1#32
  let v784 : BitVec 32 := Scalar.muli v783 c1_i32_784
  let v785 : BitVec 32 := Scalar.addi c0_i32_785 v784
  v785.toNat
def k0_dev87 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_790 : BitVec 32 := 25#32
  let v794 : BitVec 32 := Scalar.addi v2 c25_i32_790
  let c32_i32_791 : BitVec 32 := 32#32
  let v795 : BitVec 32 := Scalar.remsi v794 c32_i32_791
  let c1_i32_796 : BitVec 32 := 1#32
  let v796 : BitVec 32 := Scalar.muli v795 c1_i32_796
  let v797 : BitVec 32 := Scalar.addi c0_i32_797 v796
  v797.toNat
def k0_dev88 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_802 : BitVec 32 := 26#32
  let v806 : BitVec 32 := Scalar.addi v2 c26_i32_802
  let c32_i32_803 : BitVec 32 := 32#32
  let v807 : BitVec 32 := Scalar.remsi v806 c32_i32_803
  let c1_i32_808 : BitVec 32 := 1#32
  let v808 : BitVec 32 := Scalar.muli v807 c1_i32_808
  let v809 : BitVec 32 := Scalar.addi c0_i32_809 v808
  v809.toNat
def k0_dev89 (d0 : Dev nD) : Nat :=
  let c0_i32_821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_814 : BitVec 32 := 27#32
  let v818 : BitVec 32 := Scalar.addi v2 c27_i32_814
  let c32_i32_815 : BitVec 32 := 32#32
  let v819 : BitVec 32 := Scalar.remsi v818 c32_i32_815
  let c1_i32_820 : BitVec 32 := 1#32
  let v820 : BitVec 32 := Scalar.muli v819 c1_i32_820
  let v821 : BitVec 32 := Scalar.addi c0_i32_821 v820
  v821.toNat
def k0_dev90 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_826 : BitVec 32 := 28#32
  let v830 : BitVec 32 := Scalar.addi v2 c28_i32_826
  let c32_i32_827 : BitVec 32 := 32#32
  let v831 : BitVec 32 := Scalar.remsi v830 c32_i32_827
  let c1_i32_832 : BitVec 32 := 1#32
  let v832 : BitVec 32 := Scalar.muli v831 c1_i32_832
  let v833 : BitVec 32 := Scalar.addi c0_i32_833 v832
  v833.toNat
def k0_dev91 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_838 : BitVec 32 := 29#32
  let v842 : BitVec 32 := Scalar.addi v2 c29_i32_838
  let c32_i32_839 : BitVec 32 := 32#32
  let v843 : BitVec 32 := Scalar.remsi v842 c32_i32_839
  let c1_i32_844 : BitVec 32 := 1#32
  let v844 : BitVec 32 := Scalar.muli v843 c1_i32_844
  let v845 : BitVec 32 := Scalar.addi c0_i32_845 v844
  v845.toNat
def k0_dev92 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_850 : BitVec 32 := 30#32
  let v854 : BitVec 32 := Scalar.addi v2 c30_i32_850
  let c32_i32_851 : BitVec 32 := 32#32
  let v855 : BitVec 32 := Scalar.remsi v854 c32_i32_851
  let c1_i32_856 : BitVec 32 := 1#32
  let v856 : BitVec 32 := Scalar.muli v855 c1_i32_856
  let v857 : BitVec 32 := Scalar.addi c0_i32_857 v856
  v857.toNat
def k0_dev93 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_862 : BitVec 32 := 31#32
  let v866 : BitVec 32 := Scalar.addi v2 c31_i32_862
  let c32_i32_863 : BitVec 32 := 32#32
  let v867 : BitVec 32 := Scalar.remsi v866 c32_i32_863
  let c1_i32_868 : BitVec 32 := 1#32
  let v868 : BitVec 32 := Scalar.muli v867 c1_i32_868
  let v869 : BitVec 32 := Scalar.addi c0_i32_869 v868
  v869.toNat
def k0_off9 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v878 : Index := Scalar.indexCast v2
  let c0_874 : Index := 0#32
  let c0_875 : Index := 0#32
  let c0_876 : Index := 0#32
  ![v878.toNat, 0, 0, 0]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v885 : Index := Scalar.indexCast v2
  let c1 : Index := 1#32
  let c0_880 : Index := 0#32
  let c0_881 : Index := 0#32
  ![v885.toNat, 1, 0, 0]
def k0_dev94 (d0 : Dev nD) : Nat :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1264 : BitVec 32 := 1#32
  let v1210 : BitVec 32 := Scalar.addi v2 c1_i32_1264
  let c32_i32_1265 : BitVec 32 := 32#32
  let v1211 : BitVec 32 := Scalar.remsi v1210 c32_i32_1265
  let c1_i32_1270 : BitVec 32 := 1#32
  let v1212 : BitVec 32 := Scalar.muli v1211 c1_i32_1270
  let v1213 : BitVec 32 := Scalar.addi c0_i32_1271 v1212
  v1213.toNat
def k0_dev95 (d0 : Dev nD) : Nat :=
  let c0_i32_1283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1276 : BitVec 32 := 2#32
  let v1222 : BitVec 32 := Scalar.addi v2 c2_i32_1276
  let c32_i32_1277 : BitVec 32 := 32#32
  let v1223 : BitVec 32 := Scalar.remsi v1222 c32_i32_1277
  let c1_i32_1282 : BitVec 32 := 1#32
  let v1224 : BitVec 32 := Scalar.muli v1223 c1_i32_1282
  let v1225 : BitVec 32 := Scalar.addi c0_i32_1283 v1224
  v1225.toNat
def k0_dev96 (d0 : Dev nD) : Nat :=
  let c0_i32_1295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1288 : BitVec 32 := 3#32
  let v1234 : BitVec 32 := Scalar.addi v2 c3_i32_1288
  let c32_i32_1289 : BitVec 32 := 32#32
  let v1235 : BitVec 32 := Scalar.remsi v1234 c32_i32_1289
  let c1_i32_1294 : BitVec 32 := 1#32
  let v1236 : BitVec 32 := Scalar.muli v1235 c1_i32_1294
  let v1237 : BitVec 32 := Scalar.addi c0_i32_1295 v1236
  v1237.toNat
def k0_dev97 (d0 : Dev nD) : Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1300 : BitVec 32 := 4#32
  let v1246 : BitVec 32 := Scalar.addi v2 c4_i32_1300
  let c32_i32_1301 : BitVec 32 := 32#32
  let v1247 : BitVec 32 := Scalar.remsi v1246 c32_i32_1301
  let c1_i32_1306 : BitVec 32 := 1#32
  let v1248 : BitVec 32 := Scalar.muli v1247 c1_i32_1306
  let v1249 : BitVec 32 := Scalar.addi c0_i32_1307 v1248
  v1249.toNat
def k0_dev98 (d0 : Dev nD) : Nat :=
  let c0_i32_1319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1312 : BitVec 32 := 5#32
  let v1258 : BitVec 32 := Scalar.addi v2 c5_i32_1312
  let c32_i32_1313 : BitVec 32 := 32#32
  let v1259 : BitVec 32 := Scalar.remsi v1258 c32_i32_1313
  let c1_i32_1318 : BitVec 32 := 1#32
  let v1260 : BitVec 32 := Scalar.muli v1259 c1_i32_1318
  let v1261 : BitVec 32 := Scalar.addi c0_i32_1319 v1260
  v1261.toNat
def k0_dev99 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1324 : BitVec 32 := 6#32
  let v1270 : BitVec 32 := Scalar.addi v2 c6_i32_1324
  let c32_i32_1325 : BitVec 32 := 32#32
  let v1271 : BitVec 32 := Scalar.remsi v1270 c32_i32_1325
  let c1_i32_1330 : BitVec 32 := 1#32
  let v1272 : BitVec 32 := Scalar.muli v1271 c1_i32_1330
  let v1273 : BitVec 32 := Scalar.addi c0_i32_1331 v1272
  v1273.toNat
def k0_dev100 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1336 : BitVec 32 := 7#32
  let v1282 : BitVec 32 := Scalar.addi v2 c7_i32_1336
  let c32_i32_1337 : BitVec 32 := 32#32
  let v1283 : BitVec 32 := Scalar.remsi v1282 c32_i32_1337
  let c1_i32_1342 : BitVec 32 := 1#32
  let v1284 : BitVec 32 := Scalar.muli v1283 c1_i32_1342
  let v1285 : BitVec 32 := Scalar.addi c0_i32_1343 v1284
  v1285.toNat
def k0_dev101 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1348 : BitVec 32 := 8#32
  let v1294 : BitVec 32 := Scalar.addi v2 c8_i32_1348
  let c32_i32_1349 : BitVec 32 := 32#32
  let v1295 : BitVec 32 := Scalar.remsi v1294 c32_i32_1349
  let c1_i32_1354 : BitVec 32 := 1#32
  let v1296 : BitVec 32 := Scalar.muli v1295 c1_i32_1354
  let v1297 : BitVec 32 := Scalar.addi c0_i32_1355 v1296
  v1297.toNat
def k0_dev102 (d0 : Dev nD) : Nat :=
  let c0_i32_1367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1360 : BitVec 32 := 9#32
  let v1306 : BitVec 32 := Scalar.addi v2 c9_i32_1360
  let c32_i32_1361 : BitVec 32 := 32#32
  let v1307 : BitVec 32 := Scalar.remsi v1306 c32_i32_1361
  let c1_i32_1366 : BitVec 32 := 1#32
  let v1308 : BitVec 32 := Scalar.muli v1307 c1_i32_1366
  let v1309 : BitVec 32 := Scalar.addi c0_i32_1367 v1308
  v1309.toNat
def k0_dev103 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1372 : BitVec 32 := 10#32
  let v1318 : BitVec 32 := Scalar.addi v2 c10_i32_1372
  let c32_i32_1373 : BitVec 32 := 32#32
  let v1319 : BitVec 32 := Scalar.remsi v1318 c32_i32_1373
  let c1_i32_1378 : BitVec 32 := 1#32
  let v1320 : BitVec 32 := Scalar.muli v1319 c1_i32_1378
  let v1321 : BitVec 32 := Scalar.addi c0_i32_1379 v1320
  v1321.toNat
def k0_dev104 (d0 : Dev nD) : Nat :=
  let c0_i32_1391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1384 : BitVec 32 := 11#32
  let v1330 : BitVec 32 := Scalar.addi v2 c11_i32_1384
  let c32_i32_1385 : BitVec 32 := 32#32
  let v1331 : BitVec 32 := Scalar.remsi v1330 c32_i32_1385
  let c1_i32_1390 : BitVec 32 := 1#32
  let v1332 : BitVec 32 := Scalar.muli v1331 c1_i32_1390
  let v1333 : BitVec 32 := Scalar.addi c0_i32_1391 v1332
  v1333.toNat
def k0_dev105 (d0 : Dev nD) : Nat :=
  let c0_i32_1403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1396 : BitVec 32 := 12#32
  let v1342 : BitVec 32 := Scalar.addi v2 c12_i32_1396
  let c32_i32_1397 : BitVec 32 := 32#32
  let v1343 : BitVec 32 := Scalar.remsi v1342 c32_i32_1397
  let c1_i32_1402 : BitVec 32 := 1#32
  let v1344 : BitVec 32 := Scalar.muli v1343 c1_i32_1402
  let v1345 : BitVec 32 := Scalar.addi c0_i32_1403 v1344
  v1345.toNat
def k0_dev106 (d0 : Dev nD) : Nat :=
  let c0_i32_1415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1408 : BitVec 32 := 13#32
  let v1354 : BitVec 32 := Scalar.addi v2 c13_i32_1408
  let c32_i32_1409 : BitVec 32 := 32#32
  let v1355 : BitVec 32 := Scalar.remsi v1354 c32_i32_1409
  let c1_i32_1414 : BitVec 32 := 1#32
  let v1356 : BitVec 32 := Scalar.muli v1355 c1_i32_1414
  let v1357 : BitVec 32 := Scalar.addi c0_i32_1415 v1356
  v1357.toNat
def k0_dev107 (d0 : Dev nD) : Nat :=
  let c0_i32_1427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1420 : BitVec 32 := 14#32
  let v1366 : BitVec 32 := Scalar.addi v2 c14_i32_1420
  let c32_i32_1421 : BitVec 32 := 32#32
  let v1367 : BitVec 32 := Scalar.remsi v1366 c32_i32_1421
  let c1_i32_1426 : BitVec 32 := 1#32
  let v1368 : BitVec 32 := Scalar.muli v1367 c1_i32_1426
  let v1369 : BitVec 32 := Scalar.addi c0_i32_1427 v1368
  v1369.toNat
def k0_dev108 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1432 : BitVec 32 := 15#32
  let v1378 : BitVec 32 := Scalar.addi v2 c15_i32_1432
  let c32_i32_1433 : BitVec 32 := 32#32
  let v1379 : BitVec 32 := Scalar.remsi v1378 c32_i32_1433
  let c1_i32_1438 : BitVec 32 := 1#32
  let v1380 : BitVec 32 := Scalar.muli v1379 c1_i32_1438
  let v1381 : BitVec 32 := Scalar.addi c0_i32_1439 v1380
  v1381.toNat
def k0_dev109 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1444 : BitVec 32 := 16#32
  let v1390 : BitVec 32 := Scalar.addi v2 c16_i32_1444
  let c32_i32_1445 : BitVec 32 := 32#32
  let v1391 : BitVec 32 := Scalar.remsi v1390 c32_i32_1445
  let c1_i32_1450 : BitVec 32 := 1#32
  let v1392 : BitVec 32 := Scalar.muli v1391 c1_i32_1450
  let v1393 : BitVec 32 := Scalar.addi c0_i32_1451 v1392
  v1393.toNat
def k0_dev110 (d0 : Dev nD) : Nat :=
  let c0_i32_1463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1456 : BitVec 32 := 17#32
  let v1402 : BitVec 32 := Scalar.addi v2 c17_i32_1456
  let c32_i32_1457 : BitVec 32 := 32#32
  let v1403 : BitVec 32 := Scalar.remsi v1402 c32_i32_1457
  let c1_i32_1462 : BitVec 32 := 1#32
  let v1404 : BitVec 32 := Scalar.muli v1403 c1_i32_1462
  let v1405 : BitVec 32 := Scalar.addi c0_i32_1463 v1404
  v1405.toNat
def k0_dev111 (d0 : Dev nD) : Nat :=
  let c0_i32_1475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1468 : BitVec 32 := 18#32
  let v1414 : BitVec 32 := Scalar.addi v2 c18_i32_1468
  let c32_i32_1469 : BitVec 32 := 32#32
  let v1415 : BitVec 32 := Scalar.remsi v1414 c32_i32_1469
  let c1_i32_1474 : BitVec 32 := 1#32
  let v1416 : BitVec 32 := Scalar.muli v1415 c1_i32_1474
  let v1417 : BitVec 32 := Scalar.addi c0_i32_1475 v1416
  v1417.toNat
def k0_dev112 (d0 : Dev nD) : Nat :=
  let c0_i32_1487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1480 : BitVec 32 := 19#32
  let v1426 : BitVec 32 := Scalar.addi v2 c19_i32_1480
  let c32_i32_1481 : BitVec 32 := 32#32
  let v1427 : BitVec 32 := Scalar.remsi v1426 c32_i32_1481
  let c1_i32_1486 : BitVec 32 := 1#32
  let v1428 : BitVec 32 := Scalar.muli v1427 c1_i32_1486
  let v1429 : BitVec 32 := Scalar.addi c0_i32_1487 v1428
  v1429.toNat
def k0_dev113 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1492 : BitVec 32 := 20#32
  let v1438 : BitVec 32 := Scalar.addi v2 c20_i32_1492
  let c32_i32_1493 : BitVec 32 := 32#32
  let v1439 : BitVec 32 := Scalar.remsi v1438 c32_i32_1493
  let c1_i32_1498 : BitVec 32 := 1#32
  let v1440 : BitVec 32 := Scalar.muli v1439 c1_i32_1498
  let v1441 : BitVec 32 := Scalar.addi c0_i32_1499 v1440
  v1441.toNat
def k0_dev114 (d0 : Dev nD) : Nat :=
  let c0_i32_1511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1504 : BitVec 32 := 21#32
  let v1450 : BitVec 32 := Scalar.addi v2 c21_i32_1504
  let c32_i32_1505 : BitVec 32 := 32#32
  let v1451 : BitVec 32 := Scalar.remsi v1450 c32_i32_1505
  let c1_i32_1510 : BitVec 32 := 1#32
  let v1452 : BitVec 32 := Scalar.muli v1451 c1_i32_1510
  let v1453 : BitVec 32 := Scalar.addi c0_i32_1511 v1452
  v1453.toNat
def k0_dev115 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1516 : BitVec 32 := 22#32
  let v1462 : BitVec 32 := Scalar.addi v2 c22_i32_1516
  let c32_i32_1517 : BitVec 32 := 32#32
  let v1463 : BitVec 32 := Scalar.remsi v1462 c32_i32_1517
  let c1_i32_1522 : BitVec 32 := 1#32
  let v1464 : BitVec 32 := Scalar.muli v1463 c1_i32_1522
  let v1465 : BitVec 32 := Scalar.addi c0_i32_1523 v1464
  v1465.toNat
def k0_dev116 (d0 : Dev nD) : Nat :=
  let c0_i32_1535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1528 : BitVec 32 := 23#32
  let v1474 : BitVec 32 := Scalar.addi v2 c23_i32_1528
  let c32_i32_1529 : BitVec 32 := 32#32
  let v1475 : BitVec 32 := Scalar.remsi v1474 c32_i32_1529
  let c1_i32_1534 : BitVec 32 := 1#32
  let v1476 : BitVec 32 := Scalar.muli v1475 c1_i32_1534
  let v1477 : BitVec 32 := Scalar.addi c0_i32_1535 v1476
  v1477.toNat
def k0_dev117 (d0 : Dev nD) : Nat :=
  let c0_i32_1547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1540 : BitVec 32 := 24#32
  let v1486 : BitVec 32 := Scalar.addi v2 c24_i32_1540
  let c32_i32_1541 : BitVec 32 := 32#32
  let v1487 : BitVec 32 := Scalar.remsi v1486 c32_i32_1541
  let c1_i32_1546 : BitVec 32 := 1#32
  let v1488 : BitVec 32 := Scalar.muli v1487 c1_i32_1546
  let v1489 : BitVec 32 := Scalar.addi c0_i32_1547 v1488
  v1489.toNat
def k0_dev118 (d0 : Dev nD) : Nat :=
  let c0_i32_1559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1552 : BitVec 32 := 25#32
  let v1498 : BitVec 32 := Scalar.addi v2 c25_i32_1552
  let c32_i32_1553 : BitVec 32 := 32#32
  let v1499 : BitVec 32 := Scalar.remsi v1498 c32_i32_1553
  let c1_i32_1558 : BitVec 32 := 1#32
  let v1500 : BitVec 32 := Scalar.muli v1499 c1_i32_1558
  let v1501 : BitVec 32 := Scalar.addi c0_i32_1559 v1500
  v1501.toNat
def k0_dev119 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1564 : BitVec 32 := 26#32
  let v1510 : BitVec 32 := Scalar.addi v2 c26_i32_1564
  let c32_i32_1565 : BitVec 32 := 32#32
  let v1511 : BitVec 32 := Scalar.remsi v1510 c32_i32_1565
  let c1_i32_1570 : BitVec 32 := 1#32
  let v1512 : BitVec 32 := Scalar.muli v1511 c1_i32_1570
  let v1513 : BitVec 32 := Scalar.addi c0_i32_1571 v1512
  v1513.toNat
def k0_dev120 (d0 : Dev nD) : Nat :=
  let c0_i32_1583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1576 : BitVec 32 := 27#32
  let v1522 : BitVec 32 := Scalar.addi v2 c27_i32_1576
  let c32_i32_1577 : BitVec 32 := 32#32
  let v1523 : BitVec 32 := Scalar.remsi v1522 c32_i32_1577
  let c1_i32_1582 : BitVec 32 := 1#32
  let v1524 : BitVec 32 := Scalar.muli v1523 c1_i32_1582
  let v1525 : BitVec 32 := Scalar.addi c0_i32_1583 v1524
  v1525.toNat
def k0_dev121 (d0 : Dev nD) : Nat :=
  let c0_i32_1595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1588 : BitVec 32 := 28#32
  let v1534 : BitVec 32 := Scalar.addi v2 c28_i32_1588
  let c32_i32_1589 : BitVec 32 := 32#32
  let v1535 : BitVec 32 := Scalar.remsi v1534 c32_i32_1589
  let c1_i32_1594 : BitVec 32 := 1#32
  let v1536 : BitVec 32 := Scalar.muli v1535 c1_i32_1594
  let v1537 : BitVec 32 := Scalar.addi c0_i32_1595 v1536
  v1537.toNat
def k0_dev122 (d0 : Dev nD) : Nat :=
  let c0_i32_1607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1600 : BitVec 32 := 29#32
  let v1546 : BitVec 32 := Scalar.addi v2 c29_i32_1600
  let c32_i32_1601 : BitVec 32 := 32#32
  let v1547 : BitVec 32 := Scalar.remsi v1546 c32_i32_1601
  let c1_i32_1606 : BitVec 32 := 1#32
  let v1548 : BitVec 32 := Scalar.muli v1547 c1_i32_1606
  let v1549 : BitVec 32 := Scalar.addi c0_i32_1607 v1548
  v1549.toNat
def k0_dev123 (d0 : Dev nD) : Nat :=
  let c0_i32_1619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1612 : BitVec 32 := 30#32
  let v1558 : BitVec 32 := Scalar.addi v2 c30_i32_1612
  let c32_i32_1613 : BitVec 32 := 32#32
  let v1559 : BitVec 32 := Scalar.remsi v1558 c32_i32_1613
  let c1_i32_1618 : BitVec 32 := 1#32
  let v1560 : BitVec 32 := Scalar.muli v1559 c1_i32_1618
  let v1561 : BitVec 32 := Scalar.addi c0_i32_1619 v1560
  v1561.toNat
def k0_dev124 (d0 : Dev nD) : Nat :=
  let c0_i32_1631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1624 : BitVec 32 := 31#32
  let v1570 : BitVec 32 := Scalar.addi v2 c31_i32_1624
  let c32_i32_1625 : BitVec 32 := 32#32
  let v1571 : BitVec 32 := Scalar.remsi v1570 c32_i32_1625
  let c1_i32_1630 : BitVec 32 := 1#32
  let v1572 : BitVec 32 := Scalar.muli v1571 c1_i32_1630
  let v1573 : BitVec 32 := Scalar.addi c0_i32_1631 v1572
  v1573.toNat
def k0_dev125 (d0 : Dev nD) : Nat :=
  let c0_i32_2029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2022 : BitVec 32 := 1#32
  let v1906 : BitVec 32 := Scalar.addi v2 c1_i32_2022
  let c32_i32_2023 : BitVec 32 := 32#32
  let v1907 : BitVec 32 := Scalar.remsi v1906 c32_i32_2023
  let c1_i32_2028 : BitVec 32 := 1#32
  let v1908 : BitVec 32 := Scalar.muli v1907 c1_i32_2028
  let v1909 : BitVec 32 := Scalar.addi c0_i32_2029 v1908
  v1909.toNat
def k0_dev126 (d0 : Dev nD) : Nat :=
  let c0_i32_2041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2034 : BitVec 32 := 2#32
  let v1918 : BitVec 32 := Scalar.addi v2 c2_i32_2034
  let c32_i32_2035 : BitVec 32 := 32#32
  let v1919 : BitVec 32 := Scalar.remsi v1918 c32_i32_2035
  let c1_i32_2040 : BitVec 32 := 1#32
  let v1920 : BitVec 32 := Scalar.muli v1919 c1_i32_2040
  let v1921 : BitVec 32 := Scalar.addi c0_i32_2041 v1920
  v1921.toNat
def k0_dev127 (d0 : Dev nD) : Nat :=
  let c0_i32_2053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2046 : BitVec 32 := 3#32
  let v1930 : BitVec 32 := Scalar.addi v2 c3_i32_2046
  let c32_i32_2047 : BitVec 32 := 32#32
  let v1931 : BitVec 32 := Scalar.remsi v1930 c32_i32_2047
  let c1_i32_2052 : BitVec 32 := 1#32
  let v1932 : BitVec 32 := Scalar.muli v1931 c1_i32_2052
  let v1933 : BitVec 32 := Scalar.addi c0_i32_2053 v1932
  v1933.toNat
def k0_dev128 (d0 : Dev nD) : Nat :=
  let c0_i32_2065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2058 : BitVec 32 := 4#32
  let v1942 : BitVec 32 := Scalar.addi v2 c4_i32_2058
  let c32_i32_2059 : BitVec 32 := 32#32
  let v1943 : BitVec 32 := Scalar.remsi v1942 c32_i32_2059
  let c1_i32_2064 : BitVec 32 := 1#32
  let v1944 : BitVec 32 := Scalar.muli v1943 c1_i32_2064
  let v1945 : BitVec 32 := Scalar.addi c0_i32_2065 v1944
  v1945.toNat
def k0_dev129 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2070 : BitVec 32 := 5#32
  let v1954 : BitVec 32 := Scalar.addi v2 c5_i32_2070
  let c32_i32_2071 : BitVec 32 := 32#32
  let v1955 : BitVec 32 := Scalar.remsi v1954 c32_i32_2071
  let c1_i32_2076 : BitVec 32 := 1#32
  let v1956 : BitVec 32 := Scalar.muli v1955 c1_i32_2076
  let v1957 : BitVec 32 := Scalar.addi c0_i32_2077 v1956
  v1957.toNat
def k0_dev130 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2082 : BitVec 32 := 6#32
  let v1966 : BitVec 32 := Scalar.addi v2 c6_i32_2082
  let c32_i32_2083 : BitVec 32 := 32#32
  let v1967 : BitVec 32 := Scalar.remsi v1966 c32_i32_2083
  let c1_i32_2088 : BitVec 32 := 1#32
  let v1968 : BitVec 32 := Scalar.muli v1967 c1_i32_2088
  let v1969 : BitVec 32 := Scalar.addi c0_i32_2089 v1968
  v1969.toNat
def k0_dev131 (d0 : Dev nD) : Nat :=
  let c0_i32_2101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2094 : BitVec 32 := 7#32
  let v1978 : BitVec 32 := Scalar.addi v2 c7_i32_2094
  let c32_i32_2095 : BitVec 32 := 32#32
  let v1979 : BitVec 32 := Scalar.remsi v1978 c32_i32_2095
  let c1_i32_2100 : BitVec 32 := 1#32
  let v1980 : BitVec 32 := Scalar.muli v1979 c1_i32_2100
  let v1981 : BitVec 32 := Scalar.addi c0_i32_2101 v1980
  v1981.toNat
def k0_dev132 (d0 : Dev nD) : Nat :=
  let c0_i32_2113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2106 : BitVec 32 := 8#32
  let v1990 : BitVec 32 := Scalar.addi v2 c8_i32_2106
  let c32_i32_2107 : BitVec 32 := 32#32
  let v1991 : BitVec 32 := Scalar.remsi v1990 c32_i32_2107
  let c1_i32_2112 : BitVec 32 := 1#32
  let v1992 : BitVec 32 := Scalar.muli v1991 c1_i32_2112
  let v1993 : BitVec 32 := Scalar.addi c0_i32_2113 v1992
  v1993.toNat
def k0_dev133 (d0 : Dev nD) : Nat :=
  let c0_i32_2125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2118 : BitVec 32 := 9#32
  let v2002 : BitVec 32 := Scalar.addi v2 c9_i32_2118
  let c32_i32_2119 : BitVec 32 := 32#32
  let v2003 : BitVec 32 := Scalar.remsi v2002 c32_i32_2119
  let c1_i32_2124 : BitVec 32 := 1#32
  let v2004 : BitVec 32 := Scalar.muli v2003 c1_i32_2124
  let v2005 : BitVec 32 := Scalar.addi c0_i32_2125 v2004
  v2005.toNat
def k0_dev134 (d0 : Dev nD) : Nat :=
  let c0_i32_2137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2130 : BitVec 32 := 10#32
  let v2014 : BitVec 32 := Scalar.addi v2 c10_i32_2130
  let c32_i32_2131 : BitVec 32 := 32#32
  let v2015 : BitVec 32 := Scalar.remsi v2014 c32_i32_2131
  let c1_i32_2136 : BitVec 32 := 1#32
  let v2016 : BitVec 32 := Scalar.muli v2015 c1_i32_2136
  let v2017 : BitVec 32 := Scalar.addi c0_i32_2137 v2016
  v2017.toNat
def k0_dev135 (d0 : Dev nD) : Nat :=
  let c0_i32_2149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2142 : BitVec 32 := 11#32
  let v2026 : BitVec 32 := Scalar.addi v2 c11_i32_2142
  let c32_i32_2143 : BitVec 32 := 32#32
  let v2027 : BitVec 32 := Scalar.remsi v2026 c32_i32_2143
  let c1_i32_2148 : BitVec 32 := 1#32
  let v2028 : BitVec 32 := Scalar.muli v2027 c1_i32_2148
  let v2029 : BitVec 32 := Scalar.addi c0_i32_2149 v2028
  v2029.toNat
def k0_dev136 (d0 : Dev nD) : Nat :=
  let c0_i32_2161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2154 : BitVec 32 := 12#32
  let v2038 : BitVec 32 := Scalar.addi v2 c12_i32_2154
  let c32_i32_2155 : BitVec 32 := 32#32
  let v2039 : BitVec 32 := Scalar.remsi v2038 c32_i32_2155
  let c1_i32_2160 : BitVec 32 := 1#32
  let v2040 : BitVec 32 := Scalar.muli v2039 c1_i32_2160
  let v2041 : BitVec 32 := Scalar.addi c0_i32_2161 v2040
  v2041.toNat
def k0_dev137 (d0 : Dev nD) : Nat :=
  let c0_i32_2173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2166 : BitVec 32 := 13#32
  let v2050 : BitVec 32 := Scalar.addi v2 c13_i32_2166
  let c32_i32_2167 : BitVec 32 := 32#32
  let v2051 : BitVec 32 := Scalar.remsi v2050 c32_i32_2167
  let c1_i32_2172 : BitVec 32 := 1#32
  let v2052 : BitVec 32 := Scalar.muli v2051 c1_i32_2172
  let v2053 : BitVec 32 := Scalar.addi c0_i32_2173 v2052
  v2053.toNat
def k0_dev138 (d0 : Dev nD) : Nat :=
  let c0_i32_2185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2178 : BitVec 32 := 14#32
  let v2062 : BitVec 32 := Scalar.addi v2 c14_i32_2178
  let c32_i32_2179 : BitVec 32 := 32#32
  let v2063 : BitVec 32 := Scalar.remsi v2062 c32_i32_2179
  let c1_i32_2184 : BitVec 32 := 1#32
  let v2064 : BitVec 32 := Scalar.muli v2063 c1_i32_2184
  let v2065 : BitVec 32 := Scalar.addi c0_i32_2185 v2064
  v2065.toNat
def k0_dev139 (d0 : Dev nD) : Nat :=
  let c0_i32_2197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2190 : BitVec 32 := 15#32
  let v2074 : BitVec 32 := Scalar.addi v2 c15_i32_2190
  let c32_i32_2191 : BitVec 32 := 32#32
  let v2075 : BitVec 32 := Scalar.remsi v2074 c32_i32_2191
  let c1_i32_2196 : BitVec 32 := 1#32
  let v2076 : BitVec 32 := Scalar.muli v2075 c1_i32_2196
  let v2077 : BitVec 32 := Scalar.addi c0_i32_2197 v2076
  v2077.toNat
def k0_dev140 (d0 : Dev nD) : Nat :=
  let c0_i32_2209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2202 : BitVec 32 := 16#32
  let v2086 : BitVec 32 := Scalar.addi v2 c16_i32_2202
  let c32_i32_2203 : BitVec 32 := 32#32
  let v2087 : BitVec 32 := Scalar.remsi v2086 c32_i32_2203
  let c1_i32_2208 : BitVec 32 := 1#32
  let v2088 : BitVec 32 := Scalar.muli v2087 c1_i32_2208
  let v2089 : BitVec 32 := Scalar.addi c0_i32_2209 v2088
  v2089.toNat
def k0_dev141 (d0 : Dev nD) : Nat :=
  let c0_i32_2221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2214 : BitVec 32 := 17#32
  let v2098 : BitVec 32 := Scalar.addi v2 c17_i32_2214
  let c32_i32_2215 : BitVec 32 := 32#32
  let v2099 : BitVec 32 := Scalar.remsi v2098 c32_i32_2215
  let c1_i32_2220 : BitVec 32 := 1#32
  let v2100 : BitVec 32 := Scalar.muli v2099 c1_i32_2220
  let v2101 : BitVec 32 := Scalar.addi c0_i32_2221 v2100
  v2101.toNat
def k0_dev142 (d0 : Dev nD) : Nat :=
  let c0_i32_2233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2226 : BitVec 32 := 18#32
  let v2110 : BitVec 32 := Scalar.addi v2 c18_i32_2226
  let c32_i32_2227 : BitVec 32 := 32#32
  let v2111 : BitVec 32 := Scalar.remsi v2110 c32_i32_2227
  let c1_i32_2232 : BitVec 32 := 1#32
  let v2112 : BitVec 32 := Scalar.muli v2111 c1_i32_2232
  let v2113 : BitVec 32 := Scalar.addi c0_i32_2233 v2112
  v2113.toNat
def k0_dev143 (d0 : Dev nD) : Nat :=
  let c0_i32_2245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2238 : BitVec 32 := 19#32
  let v2122 : BitVec 32 := Scalar.addi v2 c19_i32_2238
  let c32_i32_2239 : BitVec 32 := 32#32
  let v2123 : BitVec 32 := Scalar.remsi v2122 c32_i32_2239
  let c1_i32_2244 : BitVec 32 := 1#32
  let v2124 : BitVec 32 := Scalar.muli v2123 c1_i32_2244
  let v2125 : BitVec 32 := Scalar.addi c0_i32_2245 v2124
  v2125.toNat
def k0_dev144 (d0 : Dev nD) : Nat :=
  let c0_i32_2257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2250 : BitVec 32 := 20#32
  let v2134 : BitVec 32 := Scalar.addi v2 c20_i32_2250
  let c32_i32_2251 : BitVec 32 := 32#32
  let v2135 : BitVec 32 := Scalar.remsi v2134 c32_i32_2251
  let c1_i32_2256 : BitVec 32 := 1#32
  let v2136 : BitVec 32 := Scalar.muli v2135 c1_i32_2256
  let v2137 : BitVec 32 := Scalar.addi c0_i32_2257 v2136
  v2137.toNat
def k0_dev145 (d0 : Dev nD) : Nat :=
  let c0_i32_2269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2262 : BitVec 32 := 21#32
  let v2146 : BitVec 32 := Scalar.addi v2 c21_i32_2262
  let c32_i32_2263 : BitVec 32 := 32#32
  let v2147 : BitVec 32 := Scalar.remsi v2146 c32_i32_2263
  let c1_i32_2268 : BitVec 32 := 1#32
  let v2148 : BitVec 32 := Scalar.muli v2147 c1_i32_2268
  let v2149 : BitVec 32 := Scalar.addi c0_i32_2269 v2148
  v2149.toNat
def k0_dev146 (d0 : Dev nD) : Nat :=
  let c0_i32_2281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2274 : BitVec 32 := 22#32
  let v2158 : BitVec 32 := Scalar.addi v2 c22_i32_2274
  let c32_i32_2275 : BitVec 32 := 32#32
  let v2159 : BitVec 32 := Scalar.remsi v2158 c32_i32_2275
  let c1_i32_2280 : BitVec 32 := 1#32
  let v2160 : BitVec 32 := Scalar.muli v2159 c1_i32_2280
  let v2161 : BitVec 32 := Scalar.addi c0_i32_2281 v2160
  v2161.toNat
def k0_dev147 (d0 : Dev nD) : Nat :=
  let c0_i32_2293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2286 : BitVec 32 := 23#32
  let v2170 : BitVec 32 := Scalar.addi v2 c23_i32_2286
  let c32_i32_2287 : BitVec 32 := 32#32
  let v2171 : BitVec 32 := Scalar.remsi v2170 c32_i32_2287
  let c1_i32_2292 : BitVec 32 := 1#32
  let v2172 : BitVec 32 := Scalar.muli v2171 c1_i32_2292
  let v2173 : BitVec 32 := Scalar.addi c0_i32_2293 v2172
  v2173.toNat
def k0_dev148 (d0 : Dev nD) : Nat :=
  let c0_i32_2305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2298 : BitVec 32 := 24#32
  let v2182 : BitVec 32 := Scalar.addi v2 c24_i32_2298
  let c32_i32_2299 : BitVec 32 := 32#32
  let v2183 : BitVec 32 := Scalar.remsi v2182 c32_i32_2299
  let c1_i32_2304 : BitVec 32 := 1#32
  let v2184 : BitVec 32 := Scalar.muli v2183 c1_i32_2304
  let v2185 : BitVec 32 := Scalar.addi c0_i32_2305 v2184
  v2185.toNat
def k0_dev149 (d0 : Dev nD) : Nat :=
  let c0_i32_2317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2310 : BitVec 32 := 25#32
  let v2194 : BitVec 32 := Scalar.addi v2 c25_i32_2310
  let c32_i32_2311 : BitVec 32 := 32#32
  let v2195 : BitVec 32 := Scalar.remsi v2194 c32_i32_2311
  let c1_i32_2316 : BitVec 32 := 1#32
  let v2196 : BitVec 32 := Scalar.muli v2195 c1_i32_2316
  let v2197 : BitVec 32 := Scalar.addi c0_i32_2317 v2196
  v2197.toNat
def k0_dev150 (d0 : Dev nD) : Nat :=
  let c0_i32_2329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2322 : BitVec 32 := 26#32
  let v2206 : BitVec 32 := Scalar.addi v2 c26_i32_2322
  let c32_i32_2323 : BitVec 32 := 32#32
  let v2207 : BitVec 32 := Scalar.remsi v2206 c32_i32_2323
  let c1_i32_2328 : BitVec 32 := 1#32
  let v2208 : BitVec 32 := Scalar.muli v2207 c1_i32_2328
  let v2209 : BitVec 32 := Scalar.addi c0_i32_2329 v2208
  v2209.toNat
def k0_dev151 (d0 : Dev nD) : Nat :=
  let c0_i32_2341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2334 : BitVec 32 := 27#32
  let v2218 : BitVec 32 := Scalar.addi v2 c27_i32_2334
  let c32_i32_2335 : BitVec 32 := 32#32
  let v2219 : BitVec 32 := Scalar.remsi v2218 c32_i32_2335
  let c1_i32_2340 : BitVec 32 := 1#32
  let v2220 : BitVec 32 := Scalar.muli v2219 c1_i32_2340
  let v2221 : BitVec 32 := Scalar.addi c0_i32_2341 v2220
  v2221.toNat
def k0_dev152 (d0 : Dev nD) : Nat :=
  let c0_i32_2353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2346 : BitVec 32 := 28#32
  let v2230 : BitVec 32 := Scalar.addi v2 c28_i32_2346
  let c32_i32_2347 : BitVec 32 := 32#32
  let v2231 : BitVec 32 := Scalar.remsi v2230 c32_i32_2347
  let c1_i32_2352 : BitVec 32 := 1#32
  let v2232 : BitVec 32 := Scalar.muli v2231 c1_i32_2352
  let v2233 : BitVec 32 := Scalar.addi c0_i32_2353 v2232
  v2233.toNat
def k0_dev153 (d0 : Dev nD) : Nat :=
  let c0_i32_2365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2358 : BitVec 32 := 29#32
  let v2242 : BitVec 32 := Scalar.addi v2 c29_i32_2358
  let c32_i32_2359 : BitVec 32 := 32#32
  let v2243 : BitVec 32 := Scalar.remsi v2242 c32_i32_2359
  let c1_i32_2364 : BitVec 32 := 1#32
  let v2244 : BitVec 32 := Scalar.muli v2243 c1_i32_2364
  let v2245 : BitVec 32 := Scalar.addi c0_i32_2365 v2244
  v2245.toNat
def k0_dev154 (d0 : Dev nD) : Nat :=
  let c0_i32_2377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2370 : BitVec 32 := 30#32
  let v2254 : BitVec 32 := Scalar.addi v2 c30_i32_2370
  let c32_i32_2371 : BitVec 32 := 32#32
  let v2255 : BitVec 32 := Scalar.remsi v2254 c32_i32_2371
  let c1_i32_2376 : BitVec 32 := 1#32
  let v2256 : BitVec 32 := Scalar.muli v2255 c1_i32_2376
  let v2257 : BitVec 32 := Scalar.addi c0_i32_2377 v2256
  v2257.toNat
def k0_dev155 (d0 : Dev nD) : Nat :=
  let c0_i32_2389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2382 : BitVec 32 := 31#32
  let v2266 : BitVec 32 := Scalar.addi v2 c31_i32_2382
  let c32_i32_2383 : BitVec 32 := 32#32
  let v2267 : BitVec 32 := Scalar.remsi v2266 c32_i32_2383
  let c1_i32_2388 : BitVec 32 := 1#32
  let v2268 : BitVec 32 := Scalar.muli v2267 c1_i32_2388
  let v2269 : BitVec 32 := Scalar.addi c0_i32_2389 v2268
  v2269.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S32x1024x512 : Shape := ⟨3, ![32, 1024, 512]⟩
abbrev S_ : Shape := ⟨0, ![]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32x1024x512, .bf16⟩
  | .hbm, ⟨2, _⟩ => ⟨S32x1024x512, .f32⟩
  | .hbm, ⟨3, _⟩ => ⟨S_, .f32⟩
  | .hbm, ⟨4, _⟩ => ⟨S1024x512, .f32⟩
  | .hbm, ⟨5, _⟩ => ⟨S1024x512, .bf16⟩
  | .hbm, ⟨6, _⟩ => ⟨S1024x512, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Prog.lean ====
/-
# The kernel's body as chains of steps

The body makes the same few steps for every other device, written out one after the other. Here the body is stated
with one `chain` per such stretch, a step being a function of the other device, and proved equal to the printed one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.AllReduce

open Cert.KernelIdeal Cert.KernelIdeal.Gen
open Idealize.ShloMosaic Idealize.SL.Sem

variable {F : FTy → Type} [FloatOps F]

/-- The programs of the kernel's body. -/
abbrev KProg (F : FTy → Type) [FloatOps F] (α : Type) : Type 1 := Prog (TpuEff nD τ sig (Elt F) Λ₀ .tc) α

/-- `n` programs one after the other. -/
def chain : (n : Nat) → (Fin n → KProg F PUnit) → KProg F PUnit
  | 0, _ => .ret ⟨⟩
  | n + 1, P => do P 0; chain n fun i => P i.succ

/-! ## The buffers -/

/-- The device's block of the argument. -/
abbrev xM : Memref sig .tc .vmem S1024x512 .bf16 := Memref.whole cc0_stg0_0
/-- The device's result. -/
abbrev oM : Memref sig .tc .vmem S1024x512 .f32 := Memref.whole cc0_stg1_0
/-- The device's `x`, cut into 32 chunks of two segments. -/
abbrev bM : Memref sig .tc .vmem S32x2x16x512 .bf16 := Memref.whole cc0_scratch0
/-- Where the chunks of the reduce-scatter land, one slot per sender and segment. -/
abbrev rM : Memref sig .tc .vmem S32x2x16x512 .bf16 := Memref.whole cc0_scratch1
/-- The device's reduced chunk, two segments. -/
abbrev aM : Memref sig .tc .vmem S2x16x512 .bf16 := Memref.whole cc0_scratch2
/-- Where the reduced chunks of the all-gather land, one slot per sender and segment. -/
abbrev gM : Memref sig .tc .vmem S32x2x16x512 .bf16 := Memref.whole cc0_scratch3

/-- `bM` is a whole buffer. -/
abbrev bH : bM.IsWhole := Memref.isWhole_whole _
/-- `rM` is a whole buffer. -/
abbrev rH : rM.IsWhole := Memref.isWhole_whole _
/-- `aM` is a whole buffer. -/
abbrev aH : aM.IsWhole := Memref.isWhole_whole _
/-- `gM` is a whole buffer. -/
abbrev gH : gM.IsWhole := Memref.isWhole_whole _

/-! ## The steps -/

/-- The slot of a 32 × 2 buffer at the offsets `o`. -/
abbrev slotAt (a : Memref sig .tc .vmem S32x2x16x512 .bf16) (o : Fin 4 → Nat)
    (h : ∀ i, o i + S1x1x16x512.size i ≤ S32x2x16x512.size i) : Memref sig .tc .vmem S16x512 .bf16 :=
  (a.slice (Rect.unit (s := S32x2x16x512) o S1x1x16x512.size h) (fun _ => rfl)).squeeze S16x512 squeezes_S1x1x16x512_S16x512

/-- The segment of the reduced chunk at the offsets `o`. -/
abbrev segAt (a : Memref sig .tc .vmem S2x16x512 .bf16) (o : Fin 3 → Nat)
    (h : ∀ i, o i + S1x16x512.size i ≤ S2x16x512.size i) : Memref sig .tc .vmem S16x512 .bf16 :=
  (a.slice (Rect.unit (s := S2x16x512) o S1x16x512.size h) (fun _ => rfl)).squeeze S16x512 squeezes_S1x16x512_S16x512

/-- The semaphore of a 32 × 2 array at the offsets `o`. -/
abbrev semAt (a : DmaSems sig S32x2) (o : Fin 2 → Nat) (h : ∀ i, o i + S1x1.size i ≤ S32x2.size i) : DmaSem sig :=
  ((a.slice (Rect.unit (s := S32x2) o S1x1.size h)).squeeze S_ squeezes_S1x1_S_).sem

/-- A copy to device `t`. -/
def sendOp (t : Dev nD) (src dst : Memref sig .tc .vmem S16x512 .bf16) (sS rS : DmaSem sig)
    (hs : src.view.WordExact) (hd : dst.view.WordExact) : KProg F PUnit :=
  Prog.lift (.enqueueDma src (.remote (Dev.tc t) dst (.dma sS)) (.dma rS) hs hd ⟨⟨rfl, Or.inl rfl⟩, trivial⟩)

/-- The wait for a copy. -/
def waitOp (sm : DmaSem sig) (src dst : Memref sig .tc .vmem S16x512 .bf16)
    (hs : src.view.WordExact) (hd : dst.view.WordExact) : KProg F PUnit :=
  Prog.lift (.waitDma2 sm src dst hs hd)

/-- The signal to device `t`'s barrier. -/
def sigOp (t : Dev nD) : KProg F PUnit := semSignalWord t (SemArray.scalar (sig.barrier 0 rfl) : Sems sig S_).sem 1#32

/-- Copying the slot at `o` of `bM` to the same slot of `rM`. -/
def ownRs (o : Fin 4 → Nat) (h : ∀ i, o i + S1x1x16x512.size i ≤ S32x2x16x512.size i)
    (hp : (Rect.unit (s := S32x2x16x512) o S1x1x16x512.size h).PackedRows (EltTy.packing .bf16)) : KProg F PUnit := do
  let v ← Prog.lift (.load bM (Rect.unit (s := S32x2x16x512) o S1x1x16x512.size h).toLoadRect (View.loadsAt_vmem h_S1x1x16x512))
  let _ ← Prog.lift (.load rM (Rect.unit (s := S32x2x16x512) o S1x1x16x512.size h).toLoadRect (View.loadsAt_vmem h_S1x1x16x512))
  Prog.lift (.store rM (Rect.unit (s := S32x2x16x512) o S1x1x16x512.size h) (k0_pay2 v) Finset.univ
    (View.stores_vmem h_S1x1x16x512 (rH.storeExact_slice rfl _ hp) (fun _ => rfl)) (.inl rfl))

/-- Reducing the 32 slots of one segment of `rM` into that segment of `aM`. -/
def reduceOp (o : Fin 4 → Nat) (h : ∀ i, o i + S32x1x16x512.size i ≤ S32x2x16x512.size i)
    (oa : Fin 3 → Nat) (ha : ∀ i, oa i + S1x16x512.size i ≤ S2x16x512.size i)
    (hp : (Rect.unit (s := S2x16x512) oa S1x16x512.size ha).PackedRows (EltTy.packing .bf16)) : KProg F PUnit := do
  let v ← Prog.lift (.load rM (Rect.unit (s := S32x2x16x512) o S32x1x16x512.size h).toLoadRect (View.loadsAt_vmem h_S32x1x16x512))
  let _ ← Prog.lift (.load aM (Rect.unit (s := S2x16x512) oa S1x16x512.size ha).toLoadRect (View.loadsAt_vmem h_S1x16x512))
  Prog.lift (.store aM (Rect.unit (s := S2x16x512) oa S1x16x512.size ha) (k0_pay4 v) Finset.univ
    (View.stores_vmem h_S1x16x512 (aH.storeExact_slice rfl _ hp) (fun _ => rfl)) (.inl rfl))

/-- Copying a segment of `aM` to the device's own slot of `gM`. -/
def ownAg (oa : Fin 3 → Nat) (ha : ∀ i, oa i + S1x16x512.size i ≤ S2x16x512.size i)
    (o : Fin 4 → Nat) (h : ∀ i, o i + S1x1x16x512.size i ≤ S32x2x16x512.size i)
    (hp : (Rect.unit (s := S32x2x16x512) o S1x1x16x512.size h).PackedRows (EltTy.packing .bf16)) : KProg F PUnit := do
  let v ← Prog.lift (.load aM (Rect.unit (s := S2x16x512) oa S1x16x512.size ha).toLoadRect (View.loadsAt_vmem h_S1x16x512))
  let _ ← Prog.lift (.load gM (Rect.unit (s := S32x2x16x512) o S1x1x16x512.size h).toLoadRect (View.loadsAt_vmem h_S1x1x16x512))
  Prog.lift (.store gM (Rect.unit (s := S32x2x16x512) o S1x1x16x512.size h) (k0_pay5 v) Finset.univ
    (View.stores_vmem h_S1x1x16x512 (gH.storeExact_slice rfl _ hp) (fun _ => rfl)) (.inl rfl))

/-- Cutting `x` into `bM`. -/
def cutOp : KProg F PUnit := do
  let v ← Prog.lift (.load xM (Rect.unit (s := S1024x512) ![0, 0] S1024x512.size inb_S1024x512_S1024x512_0_0).toLoadRect (View.loadsAt_vmem h_S1024x512))
  let _ ← Prog.lift (.load bM (Rect.unit (s := S32x2x16x512) ![0, 0, 0, 0] S32x2x16x512.size inb_S32x2x16x512_S32x2x16x512_0_0_0_0).toLoadRect (View.loadsAt_vmem h_S32x2x16x512))
  Prog.lift (.store bM (Rect.unit (s := S32x2x16x512) ![0, 0, 0, 0] S32x2x16x512.size inb_S32x2x16x512_S32x2x16x512_0_0_0_0) (k0_pay1 v) Finset.univ
    (View.stores_vmem h_S32x2x16x512 (bH.storeExact_slice rfl _ packedbf16_S32x2x16x512_S32x2x16x512_0_0_0_0) (fun _ => rfl)) (.inl rfl))

/-- Writing all of `gM`, as f32 rows, to the output. -/
def outOp : KProg F PUnit := do
  let v ← Prog.lift (.load gM (Rect.unit (s := S32x2x16x512) ![0, 0, 0, 0] S32x2x16x512.size inb_S32x2x16x512_S32x2x16x512_0_0_0_0).toLoadRect (View.loadsAt_vmem h_S32x2x16x512))
  let _ ← Prog.lift (.load oM (Rect.unit (s := S1024x512) ![0, 0] S1024x512.size inb_S1024x512_S1024x512_0_0).toLoadRect (View.loadsAt_vmem h_S1024x512))
  Prog.lift (.store oM (Rect.unit (s := S1024x512) ![0, 0] S1024x512.size inb_S1024x512_S1024x512_0_0) (k0_pay8 v) Finset.univ
    (View.stores_vmem_bits_univ h_S1024x512 rfl) (.inl rfl))

/-! ## The printed body, in chains -/

/-- The device `w` places on, as the body computes it. -/
def devW (d : Dev nD) (w : BitVec 32) : Nat :=
  (Scalar.addi 0#32 (Scalar.muli (Scalar.remsi (Scalar.addi (Scalar.remsi (Scalar.divsi (Dev.word d) 1#32) 32#32) w) 32#32) 1#32)).toNat

/-- The device that the body computes is the one `r + 1` places on, around the ring. -/
theorem devW_eq : ∀ (d : Dev nD) (r : Fin 31), devW d (BitVec.ofNat 32 (1 + r.val)) = (d.val + r.val + 1) % 32 := by decide +kernel
/-- The device that the body computes is one of the 32. -/
theorem devW_lt (d : Dev nD) (r : Fin 31) : devW d (BitVec.ofNat 32 (1 + r.val)) < nD := by
  rw [devW_eq]; exact Nat.mod_lt _ (by decide)

/-- The device `r + 1` places on, as the body computes it. -/
abbrev devAt (d : Dev nD) (r : Fin 31) : Dev nD := ⟨devW d (BitVec.ofNat 32 (1 + r.val)), devW_lt d r⟩

/-- The body on device `d`, its offsets as printed. -/
def printedAt (d : Dev nD) : KProg F PUnit := do
  let W (r : Fin 31) := BitVec.ofNat 32 (1 + r.val)
  (chain 31 fun r => sigOp (devAt d r))
  cutOp
  (semWaitWord (SemArray.scalar (sig.barrier 0 rfl) : Sems sig S_).sem 31#32)
  (chain 31 fun r => sendOp (devAt d r) (slotAt bM (k0_off4 d (W r)) (k0_off4_inb d r)) (slotAt rM (k0_off3 d) (k0_off3_inb d))
      (semAt cc0_scratch4 (k0_off1 d (W r)) (k0_off1_inb d r)) (semAt cc0_scratch5 (k0_off2 d) (k0_off2_inb d))
      ((bH.wordExact_slice rfl _ (k0_off4_wordsbf16 d r)).reshape _ _) ((rH.wordExact_slice rfl _ (k0_off3_wordsbf16 d)).reshape _ _))
  (chain 31 fun r => sendOp (devAt d r) (slotAt bM (k0_off8 d (W r)) (k0_off8_inb d r)) (slotAt rM (k0_off7 d) (k0_off7_inb d))
      (semAt cc0_scratch4 (k0_off5 d (W r)) (k0_off5_inb d r)) (semAt cc0_scratch5 (k0_off6 d) (k0_off6_inb d))
      ((bH.wordExact_slice rfl _ (k0_off8_wordsbf16 d r)).reshape _ _) ((rH.wordExact_slice rfl _ (k0_off7_wordsbf16 d)).reshape _ _))
  (ownRs (k0_off9 d) (k0_off9_inb d) (k0_off9_packedbf16 d))
  (ownRs (k0_off10 d) (k0_off10_inb d) (k0_off10_packedbf16 d))
  (chain 31 fun r => waitOp (semAt cc0_scratch5 (k0_off1 d (W r)) (k0_off1_inb d r))
      (slotAt rM (k0_off4 d (W r)) (k0_off4_inb d r)) (slotAt rM (k0_off4 d (W r)) (k0_off4_inb d r))
      ((rH.wordExact_slice rfl _ (k0_off4_wordsbf16 d r)).reshape _ _) ((rH.wordExact_slice rfl _ (k0_off4_wordsbf16 d r)).reshape _ _))
  (reduceOp ![0, 0, 0, 0] inb_S32x2x16x512_S32x1x16x512_0_0_0_0 ![0, 0, 0] inb_S2x16x512_S1x16x512_0_0_0 packedbf16_S2x16x512_S1x16x512_0_0_0)
  (chain 31 fun r => sendOp (devAt d r) (segAt aM ![0, 0, 0] inb_S2x16x512_S1x16x512_0_0_0) (slotAt gM (k0_off3 d) (k0_off3_inb d))
      (semAt cc0_scratch6 (k0_off1 d (W r)) (k0_off1_inb d r)) (semAt cc0_scratch7 (k0_off2 d) (k0_off2_inb d))
      ((aH.wordExact_slice rfl _ wordsbf16_S2x16x512_S1x16x512_0_0_0).reshape _ _) ((gH.wordExact_slice rfl _ (k0_off3_wordsbf16 d)).reshape _ _))
  (ownAg ![0, 0, 0] inb_S2x16x512_S1x16x512_0_0_0 (k0_off9 d) (k0_off9_inb d) (k0_off9_packedbf16 d))
  (chain 31 fun r => waitOp (semAt cc0_scratch5 (k0_off5 d (W r)) (k0_off5_inb d r))
      (slotAt rM (k0_off8 d (W r)) (k0_off8_inb d r)) (slotAt rM (k0_off8 d (W r)) (k0_off8_inb d r))
      ((rH.wordExact_slice rfl _ (k0_off8_wordsbf16 d r)).reshape _ _) ((rH.wordExact_slice rfl _ (k0_off8_wordsbf16 d r)).reshape _ _))
  (reduceOp ![0, 1, 0, 0] inb_S32x2x16x512_S32x1x16x512_0_1_0_0 ![1, 0, 0] inb_S2x16x512_S1x16x512_1_0_0 packedbf16_S2x16x512_S1x16x512_1_0_0)
  (chain 31 fun r => sendOp (devAt d r) (segAt aM ![1, 0, 0] inb_S2x16x512_S1x16x512_1_0_0) (slotAt gM (k0_off7 d) (k0_off7_inb d))
      (semAt cc0_scratch6 (k0_off5 d (W r)) (k0_off5_inb d r)) (semAt cc0_scratch7 (k0_off6 d) (k0_off6_inb d))
      ((aH.wordExact_slice rfl _ wordsbf16_S2x16x512_S1x16x512_1_0_0).reshape _ _) ((gH.wordExact_slice rfl _ (k0_off7_wordsbf16 d)).reshape _ _))
  (ownAg ![1, 0, 0] inb_S2x16x512_S1x16x512_1_0_0 (k0_off10 d) (k0_off10_inb d) (k0_off10_packedbf16 d))
  (chain 31 fun r => waitOp (semAt cc0_scratch7 (k0_off1 d (W r)) (k0_off1_inb d r))
      (slotAt gM (k0_off4 d (W r)) (k0_off4_inb d r)) (slotAt gM (k0_off4 d (W r)) (k0_off4_inb d r))
      ((gH.wordExact_slice rfl _ (k0_off4_wordsbf16 d r)).reshape _ _) ((gH.wordExact_slice rfl _ (k0_off4_wordsbf16 d r)).reshape _ _))
  (chain 31 fun r => waitOp (semAt cc0_scratch7 (k0_off5 d (W r)) (k0_off5_inb d r))
      (slotAt gM (k0_off8 d (W r)) (k0_off8_inb d r)) (slotAt gM (k0_off8 d (W r)) (k0_off8_inb d r))
      ((gH.wordExact_slice rfl _ (k0_off8_wordsbf16 d r)).reshape _ _) ((gH.wordExact_slice rfl _ (k0_off8_wordsbf16 d r)).reshape _ _))
  outOp
  (chain 31 fun r => do
    (waitOp (semAt cc0_scratch4 (k0_off1 d (W r)) (k0_off1_inb d r)) (slotAt rM (k0_off3 d) (k0_off3_inb d)) (slotAt bM (k0_off4 d (W r)) (k0_off4_inb d r))
      ((rH.wordExact_slice rfl _ (k0_off3_wordsbf16 d)).reshape _ _) ((bH.wordExact_slice rfl _ (k0_off4_wordsbf16 d r)).reshape _ _))
    waitOp (semAt cc0_scratch6 (k0_off1 d (W r)) (k0_off1_inb d r)) (slotAt gM (k0_off3 d) (k0_off3_inb d)) (segAt aM ![0, 0, 0] inb_S2x16x512_S1x16x512_0_0_0)
      ((gH.wordExact_slice rfl _ (k0_off3_wordsbf16 d)).reshape _ _) ((aH.wordExact_slice rfl _ wordsbf16_S2x16x512_S1x16x512_0_0_0).reshape _ _))
  (chain 31 fun r => do
    (waitOp (semAt cc0_scratch4 (k0_off5 d (W r)) (k0_off5_inb d r)) (slotAt rM (k0_off7 d) (k0_off7_inb d)) (slotAt bM (k0_off8 d (W r)) (k0_off8_inb d r))
      ((rH.wordExact_slice rfl _ (k0_off7_wordsbf16 d)).reshape _ _) ((bH.wordExact_slice rfl _ (k0_off8_wordsbf16 d r)).reshape _ _))
    waitOp (semAt cc0_scratch6 (k0_off5 d (W r)) (k0_off5_inb d r)) (slotAt gM (k0_off7 d) (k0_off7_inb d)) (segAt aM ![1, 0, 0] inb_S2x16x512_S1x16x512_1_0_0)
      ((gH.wordExact_slice rfl _ (k0_off7_wordsbf16 d)).reshape _ _) ((aH.wordExact_slice rfl _ wordsbf16_S2x16x512_S1x16x512_1_0_0).reshape _ _))

set_option maxRecDepth 100000 in
/-- The printed body reads the device's index and then is those chains. -/
theorem body_printed :
    cc0_body (F := F) xM (Memref.isWhole_whole _) oM (Memref.isWhole_whole _) bM bH rM rH aM aH gM gH
        cc0_scratch4 cc0_scratch5 cc0_scratch6 cc0_scratch7
      = (do let d ← Prog.lift .deviceId; printedAt d) := by
  chain_rfl

end Cert.AllReduce

end
-- ==== Proof.Canon.lean ====
/-
# The body at one device, its offsets in closed form

Every step of the body in terms of the other device `tgt c r` and the segment `s`: the slot `(j, s)` of a buffer,
the segment `s` of the reduced chunk, the semaphore `(k, j, s)`. `printedAt_eq` states that the printed body is `canon`.
-/
module

public import proofs.«01_k».proof.Proof.Prog

@[expose] public section

noncomputable section

namespace Cert.AllReduce

open Cert.KernelIdeal Cert.KernelIdeal.Gen
open Idealize.ShloMosaic Idealize.SL.Sem

variable {F : FTy → Type} [FloatOps F]

/-! ## The other devices -/

set_option backward.proofsInPublic true in
/-- The device `r + 1` places after `c`. -/
def tgt (c : Dev nD) (r : Fin 31) : Dev nD := ⟨(c.val + r.val + 1) % 32, Nat.mod_lt _ (by decide)⟩

/-- None of the 31 devices after `c` is `c`. -/
theorem tgt_ne : ∀ (c : Dev nD) (r : Fin 31), tgt c r ≠ c := by decide +kernel
/-- The 31 devices after `c` are distinct. -/
theorem tgt_injective (c : Dev nD) : Function.Injective (tgt c) := by
  intro r r' h
  have h' : (c.val + r.val + 1) % 32 = (c.val + r'.val + 1) % 32 := congrArg Fin.val h
  have h1 := r.isLt; have h2 := r'.isLt
  exact Fin.ext (by omega)
/-- The devices other than `c` are the 31 after it. -/
theorem erase_eq_map : ∀ c : Dev nD, Finset.univ.erase c = Finset.univ.map ⟨tgt c, tgt_injective c⟩ := by
  intro c
  ext t
  simp only [Finset.mem_erase, Finset.mem_univ, and_true, Finset.mem_map, true_and, Function.Embedding.coeFn_mk]
  refine ⟨fun h => ?_, fun ⟨r, hr⟩ => hr ▸ tgt_ne c r⟩
  have hc : c.val < 32 := c.isLt
  have ht : t.val < 32 := t.isLt
  have hne : t.val ≠ c.val := fun e => h (Fin.ext e)
  refine ⟨⟨(t.val + 31 - c.val) % 32, by omega⟩, Fin.ext ?_⟩
  show (c.val + (t.val + 31 - c.val) % 32 + 1) % 32 = t.val
  omega

/-- The device that the body computes is the one `r + 1` places on. -/
theorem devAt_eq (c : Dev nD) (r : Fin 31) : devAt c r = tgt c r := Fin.ext (devW_eq c r)

/-! ## Slots, segments, semaphores -/

/-- A slot lies within its buffer. -/
theorem slot_inb : ∀ (j : Fin 32) (s : Fin 2) (i : Fin 4),
    (![j.val, s.val, 0, 0] : Fin 4 → Nat) i + S1x1x16x512.size i ≤ S32x2x16x512.size i := by decide +kernel
/-- A slot covers whole words. -/
theorem slot_words : ∀ (j : Fin 32) (s : Fin 2),
    (Rect.unit (s := S32x2x16x512) ![j.val, s.val, 0, 0] S1x1x16x512.size (slot_inb j s)).WholeWords (EltTy.packing .bf16) := by decide +kernel
/-- A slot covers whole packed rows. -/
theorem slot_packed : ∀ (j : Fin 32) (s : Fin 2),
    (Rect.unit (s := S32x2x16x512) ![j.val, s.val, 0, 0] S1x1x16x512.size (slot_inb j s)).PackedRows (EltTy.packing .bf16) := by decide +kernel
/-- A segment lies within the reduced chunk. -/
theorem seg_inb : ∀ (s : Fin 2) (i : Fin 3), (![s.val, 0, 0] : Fin 3 → Nat) i + S1x16x512.size i ≤ S2x16x512.size i := by decide +kernel
/-- A segment covers whole words. -/
theorem seg_words : ∀ s : Fin 2,
    (Rect.unit (s := S2x16x512) ![s.val, 0, 0] S1x16x512.size (seg_inb s)).WholeWords (EltTy.packing .bf16) := by decide +kernel
/-- A segment covers whole packed rows. -/
theorem seg_packed : ∀ s : Fin 2,
    (Rect.unit (s := S2x16x512) ![s.val, 0, 0] S1x16x512.size (seg_inb s)).PackedRows (EltTy.packing .bf16) := by decide +kernel
/-- A segment's slots together lie within their buffer. -/
theorem col_inb : ∀ (s : Fin 2) (i : Fin 4),
    (![0, s.val, 0, 0] : Fin 4 → Nat) i + S32x1x16x512.size i ≤ S32x2x16x512.size i := by decide +kernel

/-- The slot `(j, s)` as a rectangle of a 32 × 2 buffer. -/
abbrev slotR (j : Fin 32) (s : Fin 2) : Rect S32x2x16x512 := Rect.unit (s := S32x2x16x512) ![j.val, s.val, 0, 0] S1x1x16x512.size (slot_inb j s)
/-- The slots `(0, s), …, (31, s)`. -/
abbrev colR (s : Fin 2) : Rect S32x2x16x512 := Rect.unit (s := S32x2x16x512) ![0, s.val, 0, 0] S32x1x16x512.size (col_inb s)
/-- The segment `s` of the reduced chunk. -/
abbrev segR (s : Fin 2) : Rect S2x16x512 := Rect.unit (s := S2x16x512) ![s.val, 0, 0] S1x16x512.size (seg_inb s)

/-- The slot `(j, s)` of a 32 × 2 buffer. -/
abbrev slot (a : Memref sig .tc .vmem S32x2x16x512 .bf16) (j : Fin 32) (s : Fin 2) : Memref sig .tc .vmem S16x512 .bf16 :=
  slotAt a ![j.val, s.val, 0, 0] (slot_inb j s)
/-- The segment `s` of the reduced chunk. -/
abbrev seg (a : Memref sig .tc .vmem S2x16x512 .bf16) (s : Fin 2) : Memref sig .tc .vmem S16x512 .bf16 :=
  segAt a ![s.val, 0, 0] (seg_inb s)

/-- A slot of a whole buffer can be copied word by word. -/
theorem slot_exact {a : Memref sig .tc .vmem S32x2x16x512 .bf16} (h : a.IsWhole) (j : Fin 32) (s : Fin 2) : (slot a j s).view.WordExact :=
  (h.wordExact_slice rfl _ (slot_words j s)).reshape _ _
/-- A segment of a whole buffer can be copied word by word. -/
theorem seg_exact {a : Memref sig .tc .vmem S2x16x512 .bf16} (h : a.IsWhole) (s : Fin 2) : (seg a s).view.WordExact :=
  (h.wordExact_slice rfl _ (seg_words s)).reshape _ _

/-- The number of a copy semaphore is among those that there are. -/
theorem dsem_lt (k : Fin 4) (j : Fin 32) (s : Fin 2) : 2 + 64 * k.val + 2 * j.val + s.val < 258 := by omega
/-- The semaphore `(j, s)` of the `k`-th array: the sends and the arrivals of the reduce-scatter, then those of the
    all-gather. -/
def dsem (k : Fin 4) (j : Fin 32) (s : Fin 2) : DmaSem sig := ⟨2 + 64 * k.val + 2 * j.val + s.val, dsem_lt k j s⟩

/-- One semaphore lies within its array. -/
theorem sem_inb : ∀ (j : Fin 32) (s : Fin 2) (i : Fin 2), (![j.val, s.val] : Fin 2 → Nat) i + S1x1.size i ≤ S32x2.size i := by decide +kernel
/-- The semaphores of the first array, by number. -/
theorem sem0_eq : ∀ (j : Fin 32) (s : Fin 2), semAt cc0_scratch4 ![j.val, s.val] (sem_inb j s) = dsem 0 j s := by decide +kernel
/-- The semaphores of the second array, by number. -/
theorem sem1_eq : ∀ (j : Fin 32) (s : Fin 2), semAt cc0_scratch5 ![j.val, s.val] (sem_inb j s) = dsem 1 j s := by decide +kernel
/-- The semaphores of the third array, by number. -/
theorem sem2_eq : ∀ (j : Fin 32) (s : Fin 2), semAt cc0_scratch6 ![j.val, s.val] (sem_inb j s) = dsem 2 j s := by decide +kernel
/-- The semaphores of the fourth array, by number. -/
theorem sem3_eq : ∀ (j : Fin 32) (s : Fin 2), semAt cc0_scratch7 ![j.val, s.val] (sem_inb j s) = dsem 3 j s := by decide +kernel

/-! ## The body -/

/-- Sending the `r`-th other device its chunk's segment `s`. -/
def rsSend (c : Dev nD) (s : Fin 2) (r : Fin 31) : KProg F PUnit :=
  sendOp (tgt c r) (slot bM (tgt c r) s) (slot rM c s) (dsem 0 (tgt c r) s) (dsem 1 c s) (slot_exact bH _ _) (slot_exact rH _ _)
/-- Waiting for segment `s` of the chunk that the `r`-th other device sends. -/
def rsWait (c : Dev nD) (s : Fin 2) (r : Fin 31) : KProg F PUnit :=
  waitOp (dsem 1 (tgt c r) s) (slot rM (tgt c r) s) (slot rM (tgt c r) s) (slot_exact rH _ _) (slot_exact rH _ _)
/-- Sending the `r`-th other device the reduced segment `s`. -/
def agSend (c : Dev nD) (s : Fin 2) (r : Fin 31) : KProg F PUnit :=
  sendOp (tgt c r) (seg aM s) (slot gM c s) (dsem 2 (tgt c r) s) (dsem 3 c s) (seg_exact aH _) (slot_exact gH _ _)
/-- Waiting for the reduced segment `s` of the `r`-th other device. -/
def agWait (c : Dev nD) (s : Fin 2) (r : Fin 31) : KProg F PUnit :=
  waitOp (dsem 3 (tgt c r) s) (slot gM (tgt c r) s) (slot gM (tgt c r) s) (slot_exact gH _ _) (slot_exact gH _ _)
/-- Waiting until the chunk sent to the `r`-th other device has been read. -/
def rsBack (c : Dev nD) (s : Fin 2) (r : Fin 31) : KProg F PUnit :=
  waitOp (dsem 0 (tgt c r) s) (slot rM c s) (slot bM (tgt c r) s) (slot_exact rH _ _) (slot_exact bH _ _)
/-- Waiting until the reduced segment sent to the `r`-th other device has been read. -/
def agBack (c : Dev nD) (s : Fin 2) (r : Fin 31) : KProg F PUnit :=
  waitOp (dsem 2 (tgt c r) s) (slot gM c s) (seg aM s) (slot_exact gH _ _) (seg_exact aH _)
/-- The device's own chunk, copied into its own slot. -/
def rsOwn (c : Dev nD) (s : Fin 2) : KProg F PUnit := ownRs ![c.val, s.val, 0, 0] (slot_inb c s) (slot_packed c s)
/-- The device's own reduced segment, copied into its own slot. -/
def agOwn (c : Dev nD) (s : Fin 2) : KProg F PUnit := ownAg ![s.val, 0, 0] (seg_inb s) ![c.val, s.val, 0, 0] (slot_inb c s) (slot_packed c s)
/-- The reduction of segment `s`. -/
def reduce (s : Fin 2) : KProg F PUnit := reduceOp ![0, s.val, 0, 0] (col_inb s) ![s.val, 0, 0] (seg_inb s) (seg_packed s)
/-- The wait for the 31 signals. -/
def barWait : KProg F PUnit := semWaitWord (SemArray.scalar (sig.barrier 0 rfl) : Sems sig S_).sem 31#32

/-- The body on device `c`. -/
def canon (c : Dev nD) : KProg F PUnit := do
  (chain 31 fun r => sigOp (tgt c r))
  cutOp
  barWait
  (chain 31 (rsSend c 0))
  (chain 31 (rsSend c 1))
  (rsOwn c 0)
  (rsOwn c 1)
  (chain 31 (rsWait c 0))
  (reduce 0)
  (chain 31 (agSend c 0))
  (agOwn c 0)
  (chain 31 (rsWait c 1))
  (reduce 1)
  (chain 31 (agSend c 1))
  (agOwn c 1)
  (chain 31 (agWait c 0))
  (chain 31 (agWait c 1))
  outOp
  (chain 31 fun r => do rsBack c 0 r; agBack c 0 r)
  (chain 31 fun r => do rsBack c 1 r; agBack c 1 r)

section Eqs

/-- Offsets that are those of a slot give that slot. -/
theorem slotAt_eq {a : Memref sig .tc .vmem S32x2x16x512 .bf16} {o : Fin 4 → Nat} {h : ∀ i, o i + S1x1x16x512.size i ≤ S32x2x16x512.size i}
    {j : Fin 32} {s : Fin 2} (ho : o = ![j.val, s.val, 0, 0]) : slotAt a o h = slot a j s := by subst ho; rfl
/-- Offsets that are those of a semaphore give that semaphore. -/
theorem semAt_eq {a : DmaSems sig S32x2} {o : Fin 2 → Nat} {h : ∀ i, o i + S1x1.size i ≤ S32x2.size i} {d : DmaSem sig}
    {j : Fin 32} {s : Fin 2} (ho : o = ![j.val, s.val]) (hd : semAt a ![j.val, s.val] (sem_inb j s) = d) : semAt a o h = d := by subst ho; exact hd

/-- Two copies with the same parts are the same. -/
theorem sendOp_eq {t t' : Dev nD} {src src' dst dst' : Memref sig .tc .vmem S16x512 .bf16} {sS sS' rS rS' : DmaSem sig}
    {hs : src.view.WordExact} {hd : dst.view.WordExact} {hs' : src'.view.WordExact} {hd' : dst'.view.WordExact}
    (h₁ : t = t') (h₂ : src = src') (h₃ : dst = dst') (h₄ : sS = sS') (h₅ : rS = rS') :
    sendOp (F := F) t src dst sS rS hs hd = sendOp t' src' dst' sS' rS' hs' hd' := by subst h₁ h₂ h₃ h₄ h₅; rfl
/-- Two waits with the same parts are the same. -/
theorem waitOp_eq {src src' dst dst' : Memref sig .tc .vmem S16x512 .bf16} {sm sm' : DmaSem sig}
    {hs : src.view.WordExact} {hd : dst.view.WordExact} {hs' : src'.view.WordExact} {hd' : dst'.view.WordExact}
    (h₁ : sm = sm') (h₂ : src = src') (h₃ : dst = dst') :
    waitOp (F := F) sm src dst hs hd = waitOp sm' src' dst' hs' hd' := by subst h₁ h₂ h₃; rfl
/-- Two copies of the own chunk at the same offsets are the same. -/
theorem ownRs_eq {o o' : Fin 4 → Nat} {h hp} {h' hp'} (e : o = o') : ownRs (F := F) o h hp = ownRs o' h' hp' := by subst e; rfl
/-- Two copies of the own reduced segment at the same offsets are the same. -/
theorem ownAg_eq {oa : Fin 3 → Nat} {ha} {o o' : Fin 4 → Nat} {h hp} {h' hp'} (e : o = o') :
    ownAg (F := F) oa ha o h hp = ownAg oa ha o' h' hp' := by subst e; rfl

/-- Chains of the same programs are the same. -/
theorem chain_congr {n : Nat} {P P' : Fin n → KProg F PUnit} (h : ∀ r, P r = P' r) : chain n P = chain n P' := congrArg _ (funext h)
/-- Two programs one after the other, each replaced by an equal one. -/
theorem then_congr {α : Type} {p p' : KProg F PUnit} {k k' : KProg F α} (h : p = p') (hk : k = k') : (do p; k) = (do p'; k') := by rw [h, hk]

end Eqs

/-- The printed body on device `c` is the readable one. -/
theorem printedAt_eq (c : Dev nD) : printedAt (F := F) c = canon c := by
  unfold printedAt canon
  refine then_congr (chain_congr fun r => by rw [devAt_eq]) <| then_congr rfl <| then_congr rfl <|
    then_congr (chain_congr fun r => sendOp_eq (devAt_eq c r) (slotAt_eq (s := 0) (k0_off4_eq c r)) (slotAt_eq (s := 0) (k0_off3_eq c))
      (semAt_eq (s := 0) (k0_off1_eq c r) (sem0_eq (tgt c r) 0)) (semAt_eq (s := 0) (k0_off2_eq c) (sem1_eq c 0))) <|
    then_congr (chain_congr fun r => sendOp_eq (devAt_eq c r) (slotAt_eq (s := 1) (k0_off8_eq c r)) (slotAt_eq (s := 1) (k0_off7_eq c))
      (semAt_eq (s := 1) (k0_off5_eq c r) (sem0_eq (tgt c r) 1)) (semAt_eq (s := 1) (k0_off6_eq c) (sem1_eq c 1))) <|
    then_congr (ownRs_eq (k0_off9_eq c)) <| then_congr (ownRs_eq (k0_off10_eq c)) <|
    then_congr (chain_congr fun r => waitOp_eq (semAt_eq (s := 0) (k0_off1_eq c r) (sem1_eq (tgt c r) 0)) (slotAt_eq (s := 0) (k0_off4_eq c r)) (slotAt_eq (s := 0) (k0_off4_eq c r))) <|
    then_congr rfl <|
    then_congr (chain_congr fun r => sendOp_eq (devAt_eq c r) rfl (slotAt_eq (s := 0) (k0_off3_eq c))
      (semAt_eq (s := 0) (k0_off1_eq c r) (sem2_eq (tgt c r) 0)) (semAt_eq (s := 0) (k0_off2_eq c) (sem3_eq c 0))) <|
    then_congr (ownAg_eq (k0_off9_eq c)) <|
    then_congr (chain_congr fun r => waitOp_eq (semAt_eq (s := 1) (k0_off5_eq c r) (sem1_eq (tgt c r) 1)) (slotAt_eq (s := 1) (k0_off8_eq c r)) (slotAt_eq (s := 1) (k0_off8_eq c r))) <|
    then_congr rfl <|
    then_congr (chain_congr fun r => sendOp_eq (devAt_eq c r) rfl (slotAt_eq (s := 1) (k0_off7_eq c))
      (semAt_eq (s := 1) (k0_off5_eq c r) (sem2_eq (tgt c r) 1)) (semAt_eq (s := 1) (k0_off6_eq c) (sem3_eq c 1))) <|
    then_congr (ownAg_eq (k0_off10_eq c)) <|
    then_congr (chain_congr fun r => waitOp_eq (semAt_eq (s := 0) (k0_off1_eq c r) (sem3_eq (tgt c r) 0)) (slotAt_eq (s := 0) (k0_off4_eq c r)) (slotAt_eq (s := 0) (k0_off4_eq c r))) <|
    then_congr (chain_congr fun r => waitOp_eq (semAt_eq (s := 1) (k0_off5_eq c r) (sem3_eq (tgt c r) 1)) (slotAt_eq (s := 1) (k0_off8_eq c r)) (slotAt_eq (s := 1) (k0_off8_eq c r))) <|
    then_congr rfl <| then_congr (chain_congr fun r => then_congr
        (waitOp_eq (semAt_eq (s := 0) (k0_off1_eq c r) (sem0_eq (tgt c r) 0)) (slotAt_eq (s := 0) (k0_off3_eq c)) (slotAt_eq (s := 0) (k0_off4_eq c r)))
        (waitOp_eq (semAt_eq (s := 0) (k0_off1_eq c r) (sem2_eq (tgt c r) 0)) (slotAt_eq (s := 0) (k0_off3_eq c)) rfl)) <|
    (chain_congr fun r => then_congr
        (waitOp_eq (semAt_eq (s := 1) (k0_off5_eq c r) (sem0_eq (tgt c r) 1)) (slotAt_eq (s := 1) (k0_off7_eq c)) (slotAt_eq (s := 1) (k0_off8_eq c r)))
        (waitOp_eq (semAt_eq (s := 1) (k0_off5_eq c r) (sem2_eq (tgt c r) 1)) (slotAt_eq (s := 1) (k0_off7_eq c)) rfl))

end Cert.AllReduce

end
-- ==== Proof.Contents.lean ====
/-
# What the buffers hold

One function per buffer says what it comes to hold, at every index; a slot holds that function's values on the slot's
elements. Here: those functions, the elements of a slot and of a segment, and what each copy or store leaves there.
-/
module

public import proofs.«01_k».proof.Proof.Canon
public import Idealize.ShloMosaic.Lib.Pointwise

@[expose] public section

noncomputable section

namespace Cert.AllReduce

open Cert.KernelIdeal Cert.KernelIdeal.Gen
open Idealize.ShloMosaic Idealize.SL.Sem

variable {F : FTy → Type} [FloatOps F]

/-- Contents of a 32 × 2 buffer. -/
abbrev C4 (F : FTy → Type) : Type := S32x2x16x512.Idx → Elt F .bf16
/-- Contents of the reduced chunk. -/
abbrev C3 (F : FTy → Type) : Type := S2x16x512.Idx → Elt F .bf16

section Funs

variable (X : Dev nD → S1024x512.Idx → Elt F .bf16)

/-- `bM` on device `c`: its `x`, cut. -/
def BX (c : Dev nD) : C4 F := k0_pay1 (X c)
/-- `rM` on device `c`: in slot `(j, s)`, device `j`'s slot `(c, s)`. -/
def RC (c : Dev nD) : C4 F := fun i => BX X (i 0) (ix4 c (i 1) (i 2) (i 3))
/-- The segment `s` of all of `rM`'s slots, as one load reads it. -/
def colOf (c : Dev nD) (s : Fin 2) : S32x1x16x512.Idx → Elt F .bf16 := fun i => RC X c (ix4 (i 0) s (i 2) (i 3))
/-- `aM` on device `c`: the sum over the slots. -/
def AC (c : Dev nD) : C3 F := fun i => k0_pay4 (colOf X c (i 0)) (ix3 (0 : Fin 1) (i 1) (i 2))
/-- `gM`, on every device the same: in slot `(j, s)`, device `j`'s segment `s`. -/
def GC : C4 F := fun i => AC X (i 0) (ix3 (i 1) (i 2) (i 3))

end Funs

/-! ## The elements -/

/-- The elements of the slot `(j, s)`. -/
def slotSet (j : Fin 32) (s : Fin 2) : Finset S32x2x16x512.Idx := (slotR j s).set
/-- The elements of the slots `(0, s), …, (31, s)`. -/
def colSet (s : Fin 2) : Finset S32x2x16x512.Idx := (colR s).set
/-- The elements of the segment `s`. -/
def segSet (s : Fin 2) : Finset S2x16x512.Idx := (segR s).set

/-- Where an index of a slot lies in the buffer. -/
theorem slotR_emb (j : Fin 32) (s : Fin 2) (y : S1x1x16x512.Idx) : (slotR j s).emb y = ix4 j s (y 2) (y 3) := by
  have h0 : (y 0).val = 0 := Nat.lt_one_iff.mp (y 0).isLt
  have h1 : (y 1).val = 0 := Nat.lt_one_iff.mp (y 1).isLt
  refine funext (Fin.forall_fin_succ.mpr ⟨?_, Fin.forall_fin_succ.mpr ⟨?_, Fin.forall_fin_succ.mpr ⟨?_, Fin.forall_fin_one.mpr ?_⟩⟩⟩)
  · exact Fin.ext (show j.val + 1 * (y 0).val = j.val by omega)
  · exact Fin.ext (show s.val + 1 * (y 1).val = s.val by omega)
  · exact Fin.ext (show 0 + 1 * (y 2).val = (y 2).val by omega)
  · exact Fin.ext (show 0 + 1 * (y 3).val = (y 3).val by omega)
/-- Where an index of a segment's slots lies in the buffer. -/
theorem colR_emb (s : Fin 2) (y : S32x1x16x512.Idx) : (colR s).emb y = ix4 (y 0) s (y 2) (y 3) := by
  have h1 : (y 1).val = 0 := Nat.lt_one_iff.mp (y 1).isLt
  refine funext (Fin.forall_fin_succ.mpr ⟨?_, Fin.forall_fin_succ.mpr ⟨?_, Fin.forall_fin_succ.mpr ⟨?_, Fin.forall_fin_one.mpr ?_⟩⟩⟩)
  · exact Fin.ext (show 0 + 1 * (y 0).val = (y 0).val by omega)
  · exact Fin.ext (show s.val + 1 * (y 1).val = s.val by omega)
  · exact Fin.ext (show 0 + 1 * (y 2).val = (y 2).val by omega)
  · exact Fin.ext (show 0 + 1 * (y 3).val = (y 3).val by omega)
/-- Where an index of a segment lies in the reduced chunk. -/
theorem segR_emb (s : Fin 2) (y : S1x16x512.Idx) : (segR s).emb y = ix3 s (y 1) (y 2) := by
  have h0 : (y 0).val = 0 := Nat.lt_one_iff.mp (y 0).isLt
  refine funext (Fin.forall_fin_succ.mpr ⟨?_, Fin.forall_fin_succ.mpr ⟨?_, Fin.forall_fin_one.mpr ?_⟩⟩)
  · exact Fin.ext (show s.val + 1 * (y 0).val = s.val by omega)
  · exact Fin.ext (show 0 + 1 * (y 1).val = (y 1).val by omega)
  · exact Fin.ext (show 0 + 1 * (y 2).val = (y 2).val by omega)

/-- An index lies in the slot `(j, s)` when it begins with `j` and `s`. -/
theorem mem_slotSet {j : Fin 32} {s : Fin 2} {i : S32x2x16x512.Idx} : i ∈ slotSet j s ↔ i 0 = j ∧ i 1 = s := by
  unfold slotSet
  rw [← Rect.map_emb_univ, Finset.mem_map]
  constructor
  · rintro ⟨y, -, rfl⟩; rw [slotR_emb]; exact ⟨rfl, rfl⟩
  · rintro ⟨h0, h1⟩
    refine ⟨ix4 (0 : Fin 1) (0 : Fin 1) (i 2) (i 3), Finset.mem_univ _, ?_⟩
    rw [slotR_emb, ← h0, ← h1]; exact ix4_eta i
/-- An index lies in a segment's slots when its second coordinate is that segment. -/
theorem mem_colSet {s : Fin 2} {i : S32x2x16x512.Idx} : i ∈ colSet s ↔ i 1 = s := by
  unfold colSet
  rw [← Rect.map_emb_univ, Finset.mem_map]
  constructor
  · rintro ⟨y, -, rfl⟩; rw [colR_emb]; rfl
  · rintro h1
    refine ⟨ix4 (i 0) (0 : Fin 1) (i 2) (i 3), Finset.mem_univ _, ?_⟩
    rw [colR_emb, ← h1]; exact ix4_eta i
/-- An index lies in a segment when it begins with it. -/
theorem mem_segSet {s : Fin 2} {i : S2x16x512.Idx} : i ∈ segSet s ↔ i 0 = s := by
  unfold segSet
  rw [← Rect.map_emb_univ, Finset.mem_map]
  constructor
  · rintro ⟨y, -, rfl⟩; rw [segR_emb]; rfl
  · rintro h0
    refine ⟨ix3 (0 : Fin 1) (i 1) (i 2), Finset.mem_univ _, ?_⟩
    rw [segR_emb, ← h0]; exact ix3_eta i

/-- Different slots are disjoint. -/
theorem slotSet_disjoint (j j' : Fin 32 × Fin 2) (h : j ≠ j') : Disjoint (slotSet j.1 j.2) (slotSet j'.1 j'.2) :=
  Finset.disjoint_left.mpr fun i h₁ h₂ => h (Prod.ext ((mem_slotSet.mp h₁).1.symm.trans (mem_slotSet.mp h₂).1)
    ((mem_slotSet.mp h₁).2.symm.trans (mem_slotSet.mp h₂).2))
/-- The slots make up the buffer. -/
theorem slotSet_union : (Finset.univ : Finset (Fin 32 × Fin 2)).biUnion (fun p => slotSet p.1 p.2) = Finset.univ :=
  Finset.eq_univ_iff_forall.mpr fun i => Finset.mem_biUnion.mpr ⟨(i 0, i 1), Finset.mem_univ _, mem_slotSet.mpr ⟨rfl, rfl⟩⟩
/-- The slots of one segment make up that segment. -/
theorem slotSet_col (s : Fin 2) : (Finset.univ : Finset (Fin 32)).biUnion (fun j => slotSet j s) = colSet s := by
  ext i
  simp only [Finset.mem_biUnion, Finset.mem_univ, true_and, mem_slotSet, mem_colSet]
  exact ⟨fun ⟨_, _, h⟩ => h, fun h => ⟨i 0, rfl, h⟩⟩
/-- Different segments are disjoint. -/
theorem segSet_disjoint (s s' : Fin 2) (h : s ≠ s') : Disjoint (segSet s) (segSet s') :=
  Finset.disjoint_left.mpr fun i h₁ h₂ => h ((mem_segSet.mp h₁).symm.trans (mem_segSet.mp h₂))
/-- The segments make up the reduced chunk. -/
theorem segSet_union : (Finset.univ : Finset (Fin 2)).biUnion segSet = Finset.univ :=
  Finset.eq_univ_iff_forall.mpr fun i => Finset.mem_biUnion.mpr ⟨i 0, Finset.mem_univ _, mem_segSet.mpr rfl⟩

/-! ## The elements under the body's memrefs -/

/-- The elements under a slot of `bM`. -/
theorem slot_set_b (j : Fin 32) (s : Fin 2) : (slot bM j s).view.set = slotSet j s := (View.set_reshape _ _).trans (View.set_slice_whole _ _)
/-- The elements under a slot of `rM`. -/
theorem slot_set_r (j : Fin 32) (s : Fin 2) : (slot rM j s).view.set = slotSet j s := (View.set_reshape _ _).trans (View.set_slice_whole _ _)
/-- The elements under a slot of `gM`. -/
theorem slot_set_g (j : Fin 32) (s : Fin 2) : (slot gM j s).view.set = slotSet j s := (View.set_reshape _ _).trans (View.set_slice_whole _ _)
/-- The elements under a segment of `aM`. -/
theorem seg_set (s : Fin 2) : (seg aM s).view.set = segSet s := (View.set_reshape _ _).trans (View.set_slice_whole _ _)

/-- The place of an index within a slot. -/
theorem row_slot (a : Fin 16) (b : Fin 512) :
    ((⟨4, ![1, 1, 16, 512]⟩ : Shape).rowMajor (ix4 (0 : Fin 1) (0 : Fin 1) a b)).val = a.val * 512 + b.val := by
  rw [Shape.rowMajor_val_four]
  show (((0 : Nat) * 1 + 0) * 16 + a.val) * 512 + b.val = a.val * 512 + b.val
  omega
/-- The place of an index within a segment. -/
theorem row_seg (a : Fin 16) (b : Fin 512) :
    ((⟨3, ![1, 16, 512]⟩ : Shape).rowMajor (ix3 (0 : Fin 1) a b)).val = a.val * 512 + b.val := by
  rw [Shape.rowMajor_val_three]
  show ((0 : Nat) * 16 + a.val) * 512 + b.val = a.val * 512 + b.val
  omega
/-- The place of an index within a tile of 16 rows. -/
theorem row_tile (x : (⟨2, ![16, 512]⟩ : Shape).Idx) : ((⟨2, ![16, 512]⟩ : Shape).rowMajor x).val = (x 0).val * 512 + (x 1).val := by
  rw [Shape.rowMajor_val_two]; rfl

/-- A tile's index as an index of a slot. -/
theorem squeeze_slot (x : S16x512.Idx) : Shape.reshapeEquiv squeezes_S1x1x16x512_S16x512.numel_eq x = ix4 (0 : Fin 1) (0 : Fin 1) (x 0) (x 1) :=
  Shape.reshapeEquiv_eq_of_rowMajor _ ((row_slot (x 0) (x 1)).trans (row_tile x).symm)
/-- A tile's index as an index of a segment. -/
theorem squeeze_seg (x : S16x512.Idx) : Shape.reshapeEquiv squeezes_S1x16x512_S16x512.numel_eq x = ix3 (0 : Fin 1) (x 0) (x 1) :=
  Shape.reshapeEquiv_eq_of_rowMajor _ ((row_seg (x 0) (x 1)).trans (row_tile x).symm)

/-- Where a tile's index lies in the buffer, the tile being a slot. -/
theorem slot_emb (j : Fin 32) (s : Fin 2) (x : S16x512.Idx) :
    (slotR j s).emb (Shape.reshapeEquiv squeezes_S1x1x16x512_S16x512.numel_eq x) = ix4 j s (x 0) (x 1) := by
  rw [slotR_emb, squeeze_slot]; rfl
/-- Where a tile's index lies in the reduced chunk, the tile being a segment. -/
theorem seg_emb (s : Fin 2) (x : S16x512.Idx) :
    (segR s).emb (Shape.reshapeEquiv squeezes_S1x16x512_S16x512.numel_eq x) = ix3 s (x 0) (x 1) := by
  rw [segR_emb, squeeze_seg]; rfl

/-! ## What a copy leaves -/

/-- A chunk landed in `rM`. -/
theorem land_rs (X : Dev nD → S1024x512.Idx → Elt F .bf16) (c t : Dev nD) (s : Fin 2) (f : C4 F) :
    ∀ i ∈ slotSet c s, (slot rM c s).view.write (Elt F) f ((slot bM t s).view.read (Elt F) (BX X c)) Finset.univ i = RC X t i := by
  intro i hi
  rw [← slot_set_r] at hi
  obtain ⟨x, -, rfl⟩ := Finset.mem_map.mp hi
  refine (View.write_emb_of_mem (v := (slot rM c s).view) (Val := Elt F) f _ (Finset.mem_univ x)).trans ?_
  show BX X c ((slotR t s).emb (Shape.reshapeEquiv squeezes_S1x1x16x512_S16x512.numel_eq x))
    = RC X t ((slotR c s).emb (Shape.reshapeEquiv squeezes_S1x1x16x512_S16x512.numel_eq x))
  rw [slot_emb, slot_emb]; rfl

/-- A reduced segment landed in `gM`. -/
theorem land_ag (X : Dev nD → S1024x512.Idx → Elt F .bf16) (c : Dev nD) (s : Fin 2) (f : C4 F) :
    ∀ i ∈ slotSet c s, (slot gM c s).view.write (Elt F) f ((seg aM s).view.read (Elt F) (AC X c)) Finset.univ i = GC X i := by
  intro i hi
  rw [← slot_set_g] at hi
  obtain ⟨x, -, rfl⟩ := Finset.mem_map.mp hi
  refine (View.write_emb_of_mem (v := (slot gM c s).view) (Val := Elt F) f _ (Finset.mem_univ x)).trans ?_
  show AC X c ((segR s).emb (Shape.reshapeEquiv squeezes_S1x16x512_S16x512.numel_eq x))
    = GC X ((slotR c s).emb (Shape.reshapeEquiv squeezes_S1x1x16x512_S16x512.numel_eq x))
  rw [slot_emb, seg_emb]; rfl

/-! ## What the stores leave -/

/-- The own chunk is stored as it was loaded. -/
theorem pay2_apply (v : Vec F S1x1x16x512 .bf16) : k0_pay2 v = v := by
  funext y
  show v (Shape.reshapeEquiv _ (Shape.reshapeEquiv _ y)) = v y
  rw [Shape.reshapeEquiv_reshapeEquiv, Shape.reshapeEquiv_self]

/-- The own reduced segment is stored as it was loaded, a leading axis apart. -/
theorem pay5_apply (v : Vec F S1x16x512 .bf16) (y : S1x1x16x512.Idx) : k0_pay5 v y = v (ix3 (0 : Fin 1) (y 2) (y 3)) := by
  have h0 : (y 0).val = 0 := Nat.lt_one_iff.mp (y 0).isLt
  have h1 : (y 1).val = 0 := Nat.lt_one_iff.mp (y 1).isLt
  show v (Shape.reshapeEquiv _ (Shape.reshapeEquiv _ y)) = _
  rw [Shape.reshapeEquiv_reshapeEquiv]
  have hy : y = ix4 (0 : Fin 1) (0 : Fin 1) (y 2) (y 3) :=
    (ix4_eta y).symm.trans (congrArg₂ (fun a b : Fin 1 => ix4 a b (y 2) (y 3)) (Fin.ext h0) (Fin.ext h1))
  refine congrArg v (Shape.reshapeEquiv_eq_of_rowMajor _ ((row_seg (y 2) (y 3)).trans ?_))
  exact (row_slot (y 2) (y 3)).symm.trans (congrArg (fun z => ((⟨4, ![1, 1, 16, 512]⟩ : Shape).rowMajor z).val) hy.symm)

/-- The device's own chunk, copied. -/
theorem store_rs (X : Dev nD → S1024x512.Idx → Elt F .bf16) (c : Dev nD) (s : Fin 2) (f : C4 F) :
    ∀ i ∈ slotSet c s, (rM.access (slotR c s)).write (Elt F) f (k0_pay2 (bM.view.readAt (Elt F) (slotR c s).toLoadRect (BX X c))) Finset.univ i = RC X c i := by
  intro i hi
  unfold slotSet at hi
  rw [← Rect.map_emb_univ] at hi
  obtain ⟨y, -, rfl⟩ := Finset.mem_map.mp hi
  refine (View.write_emb_of_mem (v := rM.access (slotR c s)) (Val := Elt F) f _ (Finset.mem_univ y)).trans ?_
  rw [pay2_apply]
  show BX X c ((slotR c s).emb y) = RC X c ((slotR c s).emb y)
  rw [slotR_emb]; rfl

/-- A load of a segment's slots reads that segment of all 32 chunks. -/
theorem read_col (X : Dev nD → S1024x512.Idx → Elt F .bf16) (c : Dev nD) (s : Fin 2) :
    rM.view.readAt (Elt F) (colR s).toLoadRect (RC X c) = colOf X c s := by
  funext y
  show RC X c ((colR s).emb y) = colOf X c s y
  rw [colR_emb]; rfl

/-- The reduced segment, stored. -/
theorem store_acc (X : Dev nD → S1024x512.Idx → Elt F .bf16) (c : Dev nD) (s : Fin 2) (f : C3 F) :
    ∀ i ∈ segSet s, (aM.access (segR s)).write (Elt F) f (k0_pay4 (rM.view.readAt (Elt F) (colR s).toLoadRect (RC X c))) Finset.univ i = AC X c i := by
  intro i hi
  unfold segSet at hi
  rw [← Rect.map_emb_univ] at hi
  obtain ⟨y, -, rfl⟩ := Finset.mem_map.mp hi
  refine (View.write_emb_of_mem (v := aM.access (segR s)) (Val := Elt F) f _ (Finset.mem_univ y)).trans ?_
  rw [read_col]
  show k0_pay4 (colOf X c s) y = AC X c ((segR s).emb y)
  rw [segR_emb]
  have h0 : y 0 = (0 : Fin 1) := Fin.ext (Nat.lt_one_iff.mp (y 0).isLt)
  show k0_pay4 (colOf X c s) y = k0_pay4 (colOf X c s) (ix3 (0 : Fin 1) (y 1) (y 2))
  rw [← h0]; exact congrArg _ (ix3_eta y).symm

/-- The device's own reduced segment, copied. -/
theorem store_ag (X : Dev nD → S1024x512.Idx → Elt F .bf16) (c : Dev nD) (s : Fin 2) (f : C4 F) :
    ∀ i ∈ slotSet c s, (gM.access (slotR c s)).write (Elt F) f (k0_pay5 (aM.view.readAt (Elt F) (segR s).toLoadRect (AC X c))) Finset.univ i = GC X i := by
  intro i hi
  unfold slotSet at hi
  rw [← Rect.map_emb_univ] at hi
  obtain ⟨y, -, rfl⟩ := Finset.mem_map.mp hi
  refine (View.write_emb_of_mem (v := gM.access (slotR c s)) (Val := Elt F) f _ (Finset.mem_univ y)).trans ?_
  rw [pay5_apply]
  show AC X c ((segR s).emb (ix3 (0 : Fin 1) (y 2) (y 3))) = GC X ((slotR c s).emb y)
  rw [segR_emb, slotR_emb]; rfl

/-! ## Whole buffers -/

/-- Two offsets of zero. -/
theorem zeros2 : (![0, 0] : Fin 2 → Nat) = fun _ => 0 := funext (Fin.forall_fin_two.mpr ⟨rfl, rfl⟩)
/-- Four offsets of zero. -/
theorem zeros4 : (![0, 0, 0, 0] : Fin 4 → Nat) = fun _ => 0 :=
  funext (Fin.forall_fin_succ.mpr ⟨rfl, Fin.forall_fin_succ.mpr ⟨rfl, Fin.forall_fin_two.mpr ⟨rfl, rfl⟩⟩⟩)

/-- All of a 1024 × 512 array. -/
abbrev wholeX : Rect S1024x512 := Rect.unit (s := S1024x512) ![0, 0] S1024x512.size inb_S1024x512_S1024x512_0_0
/-- All of a 32 × 2 buffer. -/
abbrev wholeB : Rect S32x2x16x512 := Rect.unit (s := S32x2x16x512) ![0, 0, 0, 0] S32x2x16x512.size inb_S32x2x16x512_S32x2x16x512_0_0_0_0

/-- A load of all of `xM` reads its contents. -/
theorem read_x (f : S1024x512.Idx → Elt F .bf16) : xM.view.readAt (Elt F) wholeX.toLoadRect f = f :=
  Memref.readAt_unit_zero (Elt F) cc0_stg0_0 zeros2 _ f
/-- A store over all of `bM` leaves what was stored. -/
theorem write_b (f w : C4 F) : (bM.access wholeB).write (Elt F) f w Finset.univ = w :=
  Memref.write_access_unit_zero_univ (Elt F) cc0_scratch0 zeros4 _ f w
/-- A load of all of `gM` reads its contents. -/
theorem read_g (f : C4 F) : gM.view.readAt (Elt F) wholeB.toLoadRect f = f :=
  Memref.readAt_unit_zero (Elt F) cc0_scratch3 zeros4 _ f
/-- A store over all of `oM` leaves what was stored. -/
theorem write_o (f w : S1024x512.Idx → Elt F .f32) : (oM.access wholeX).write (Elt F) f w Finset.univ = w :=
  Memref.write_access_unit_zero_univ (Elt F) cc0_stg1_0 zeros2 _ f w

end Cert.AllReduce

end
-- ==== Proof.Sched.lean ====
/-
# The protocol

A device's barrier has one duty per other device: that device hands over its slots that this device writes. The
arrival semaphore `(j, s)` of a device has one duty, device `j`'s: the slot `(j, s)` at what device `j` sent. The
send semaphore `(t, s)` has one duty, the copy to device `t`: its source back. Everything happens in round 0.
-/
module

public import proofs.«01_k».proof.Proof.Contents
public import Idealize.ShloMosaic.Lib.Pipeline.Launch
public import Idealize.ShloMosaic.Lib.Pipeline.Kit
public import Idealize.ShloMosaic.Lib.ShareLeaves

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resource algebra -/

/-- The protocol's rounds, a duty named by a device. -/
abbrev UB : Type := URounds (GSem nD τ sig) (Dev nD)
/-- The ghost state: the launch's and the protocol's. -/
abbrev UU : Type := UR sig nD τ × UB

local notation "𝕄" => MT nD τ sig Unit (Elt F) ℕ UU ℕ

/-- The launch's part of the ghost state. -/
abbrev EP : Emb (UR sig nD τ) (MT nD τ sig Unit (Elt F) ℕ UU ℕ) := embL
/-- The protocol's part of the ghost state. -/
abbrev ER : Emb UB (MT nD τ sig Unit (Elt F) ℕ UU ℕ) := embR

/-! ## The cells -/

/-- The barrier semaphore. -/
abbrev barS : Sem sig := (SemArray.scalar (sig.barrier 0 rfl) : Sems sig S_).sem
/-- Device `c`'s barrier. -/
abbrev bcell (c : Dev nD) : GSem nD τ sig := ((c : Thread nD τ), .reg barS)
/-- Device `c`'s semaphore `(j, s)` of the `k`-th array. -/
abbrev dcell (c : Dev nD) (k : Fin 4) (j : Fin 32) (s : Fin 2) : GSem nD τ sig := ((c : Thread nD τ), .dma (dsem k j s))

set_option backward.proofsInPublic true in
/-- Which semaphore of the four arrays a DMA semaphore is. -/
def decD (n : DmaSem sig) : Option (Fin 4 × Fin 32 × Fin 2) :=
  if h : 2 ≤ n.val then some (⟨(n.val - 2) / 64 % 4, Nat.mod_lt _ (by decide)⟩, ⟨(n.val - 2) % 64 / 2, by omega⟩, ⟨(n.val - 2) % 2, by omega⟩) else none

/-- A copy semaphore's array and place are read back from its number. -/
theorem decD_dsem (k : Fin 4) (j : Fin 32) (s : Fin 2) : decD (dsem k j s) = some (k, j, s) := by
  have h1 := k.isLt; have h2 := j.isLt; have h3 := s.isLt
  have hv : (dsem k j s).val = 2 + 64 * k.val + 2 * j.val + s.val := rfl
  unfold decD
  rw [dif_pos (by omega)]
  refine congrArg some (Prod.ext (Fin.ext ?_) (Prod.ext (Fin.ext ?_) (Fin.ext ?_)))
  · show ((dsem k j s).val - 2) / 64 % 4 = k.val; omega
  · show ((dsem k j s).val - 2) % 64 / 2 = j.val; omega
  · show ((dsem k j s).val - 2) % 2 = s.val; omega

/-- Copy semaphores at different places are different. -/
theorem dsem_injective {k k' : Fin 4} {j j' : Fin 32} {s s' : Fin 2} (h : dsem k j s = dsem k' j' s') : k = k' ∧ j = j' ∧ s = s' := by
  have h' := congrArg decD h
  rw [decD_dsem, decD_dsem] at h'
  have h'' := Option.some.inj h'
  exact ⟨congrArg (·.1) h'', congrArg (·.2.1) h'', congrArg (·.2.2) h''⟩

/-- The credit of one copy. -/
abbrev N : ℕ := (slot rM 0 0).view.dmaCredit
/-- A copy has some credit. -/
theorem N_pos : 0 < N := View.dmaCredit_pos _ (by decide)

/-! ## The resources -/

/-- Device `c`'s slot `(j, s)` of its cut argument, at the contents `f`. -/
def bP (c : Dev nD) (j : Fin 32) (s : Fin 2) (f : C4 F) : sProp 𝕄 := ((c : Thread nD τ).loc cc0_scratch0) ↦[slotSet j s]{fullShare} f
/-- Device `c`'s slot `(j, s)` of the reduce-scatter, at the contents `f`. -/
def rP (c : Dev nD) (j : Fin 32) (s : Fin 2) (f : C4 F) : sProp 𝕄 := ((c : Thread nD τ).loc cc0_scratch1) ↦[slotSet j s]{fullShare} f
/-- A share of device `c`'s reduced segment `s`, at the contents `f`. -/
def aP (c : Dev nD) (s : Fin 2) (q : PosShare TreeShare) (f : C3 F) : sProp 𝕄 := ((c : Thread nD τ).loc cc0_scratch2) ↦[segSet s]{q} f
/-- Device `c`'s slot `(j, s)` of the all-gather, at the contents `f`. -/
def gP (c : Dev nD) (j : Fin 32) (s : Fin 2) (f : C4 F) : sProp 𝕄 := ((c : Thread nD τ).loc cc0_scratch3) ↦[slotSet j s]{fullShare} f

/-- The share of a segment that the copy to device `j` reads. -/
def shr (j : Fin 32) : PosShare TreeShare := leaf 5 fullShare j

omit [FloatOps F] in
instance bP_storable (c : Dev nD) (j s) (f) : BI.Storable (upEmb : UEmb _ 𝕄) (bP (F := F) c j s f) := by unfold bP; infer_instance
omit [FloatOps F] in
instance rP_storable (c : Dev nD) (j s) (f) : BI.Storable (upEmb : UEmb _ 𝕄) (rP (F := F) c j s f) := by unfold rP; infer_instance
omit [FloatOps F] in
instance aP_storable (c : Dev nD) (s q) (f) : BI.Storable (upEmb : UEmb _ 𝕄) (aP (F := F) c s q f) := by unfold aP; infer_instance
omit [FloatOps F] in
instance gP_storable (c : Dev nD) (j s) (f) : BI.Storable (upEmb : UEmb _ 𝕄) (gP (F := F) c j s f) := by unfold gP; infer_instance

variable (X : Dev nD → S1024x512.Idx → Elt F .bf16)

/-- What device `t` hands over to device `c` with its signal: its slots that `c` writes. -/
def barPay (c t : Dev nD) : sProp 𝕄 :=
  iprop((∃ f, rP t c 0 f) ∗ (∃ f, rP t c 1 f) ∗ (∃ f, gP t c 0 f) ∗ (∃ f, gP t c 1 f))

/-- What the one duty of device `c`'s semaphore `(k, j, s)` hands over. -/
def pay (k : Fin 4) (c : Dev nD) (j : Fin 32) (s : Fin 2) : sProp 𝕄 := match k with
  | 0 => bP c j s (BX X c)
  | 1 => rP c j s (RC X c)
  | 2 => aP c s (shr j) (AC X c)
  | 3 => gP c j s (GC X)

instance pay_storable (k : Fin 4) (c : Dev nD) (j s) : BI.Storable (upEmb : UEmb _ 𝕄) (pay X k c j s) := by
  unfold pay; split <;> infer_instance
omit [FloatOps F] in
instance barPay_storable (c t : Dev nD) : BI.Storable (upEmb : UEmb _ 𝕄) (barPay (F := F) c t) := by
  unfold barPay; infer_instance

/-! ## The schedule -/

/-- Who pays a semaphore: a barrier every other device, a copy semaphore the one device that it is for. -/
def dutiesOf (c : Dev nD) (sm : SemLoc sig) : Finset (Dev nD) := match sm with
  | .reg b => if b = barS then Finset.univ.erase c else ∅
  | .dma n => match decD n with
    | some (k, j, s) => if j = c then ∅ else {j}
    | none => ∅

/-- What a payment hands over. -/
def payOf (c : Dev nD) (sm : SemLoc sig) (d : Dev nD) : sProp 𝕄 := match sm with
  | .reg _ => barPay c d
  | .dma n => match decD n with
    | some (k, j, s) => pay X k c j s
    | none => iprop(emp)

/-- How much a payment is. -/
def amountOf' (sm : SemLoc sig) : ℕ := match sm with
  | .reg _ => 1
  | .dma _ => N

/-- The schedule: each semaphore has one round. -/
def Rd : Rounds.Schedule (GSem nD τ sig) (Dev nD) 𝕄 where
  duties g r := if r = 0 ∧ g.1.2 = .tc then dutiesOf g.1.1 g.2 else ∅
  unitless _ := False
  amount g _ _ := amountOf' g.2
  payload g _ d := payOf X g.1.1 g.2 d
  amount_pos g _ _ _ := by
    unfold amountOf'; split
    · exact Nat.one_pos
    · exact N_pos

instance Rd_payload_storable (g : GSem nD τ sig) (r : ℕ) (d : Dev nD) : BI.Storable (upEmb : UEmb _ 𝕄) ((Rd X).payload g r d) := by
  show BI.Storable upEmb (payOf X g.1.1 g.2 d)
  unfold payOf; repeat' split
  all_goals infer_instance

/-- A barrier is paid by every other device. -/
theorem duties_bar (c : Dev nD) : (Rd X).duties (bcell c) 0 = Finset.univ.erase c := by
  dsimp only [Rd]; rw [if_pos ⟨rfl, rfl⟩]; dsimp only [dutiesOf]; exact if_pos rfl
/-- A device's copy semaphores for itself are not used. -/
theorem duties_own (c : Dev nD) (k s) : (Rd X).duties (dcell c k c s) 0 = ∅ := by
  dsimp only [Rd]; rw [if_pos ⟨rfl, rfl⟩]; dsimp only [dutiesOf]; rw [decD_dsem]; exact if_pos rfl
/-- A copy semaphore for another device has one duty. -/
theorem duties_dma {c : Dev nD} {j : Fin 32} (h : j ≠ c) (k s) : (Rd X).duties (dcell c k j s) 0 = {j} := by
  dsimp only [Rd]; rw [if_pos ⟨rfl, rfl⟩]; dsimp only [dutiesOf]; rw [decD_dsem]; exact if_neg h
/-- There is no second round. -/
theorem duties_later (g : GSem nD τ sig) : ∀ r, 1 ≤ r → (Rd X).duties g r = ∅ := fun r hr => if_neg fun h => by omega
/-- The unused semaphores have no duty in any round. -/
theorem duties_own_all (c : Dev nD) (k s) : ∀ r, 0 ≤ r → (Rd X).duties (dcell c k c s) r = ∅ := fun r _ => by
  rcases Nat.eq_zero_or_pos r with rfl | h
  · exact duties_own X c k s
  · exact duties_later X _ r h

/-- A signal is 1. -/
theorem amount_bar (c : Dev nD) (d : Dev nD) : (Rd X).amount (bcell c) 0 d = 1 := rfl
/-- A copy is its credit. -/
theorem amount_dma (c : Dev nD) (k j s) (d : Dev nD) : (Rd X).amount (dcell c k j s) 0 d = N := rfl

/-- A barrier expects 31. -/
theorem expect_bar (c : Dev nD) : (Rd X).expect (bcell c) 0 = 31 := by
  unfold Schedule.expect Schedule.amountOf
  rw [duties_bar, Finset.sum_congr rfl fun d _ => amount_bar X c d, Finset.sum_const, Finset.card_erase_of_mem (Finset.mem_univ _), Finset.card_univ,
    Fintype.card_fin, smul_eq_mul]
  rfl
/-- A copy semaphore expects one copy. -/
theorem expect_dma {c : Dev nD} {j : Fin 32} (h : j ≠ c) (k s) : (Rd X).expect (dcell c k j s) 0 = N := by
  unfold Schedule.expect Schedule.amountOf; rw [duties_dma X h, Finset.sum_singleton, amount_dma]

/-- What a signal hands over. -/
theorem payload_bar (c d : Dev nD) : (Rd X).payload (bcell c) 0 d = barPay c d := rfl
/-- What a copy hands over. -/
theorem payload_dma (c : Dev nD) (k j s) (d : Dev nD) : (Rd X).payload (dcell c k j s) 0 d = pay X k c j s := by
  dsimp only [Rd, payOf]; rw [decD_dsem]

/-- All that the wait for a copy brings. -/
theorem rest_dma {c : Dev nD} {j : Fin 32} (h : j ≠ c) (k s) :
    bigSep ((Rd X).duties (dcell c k j s) 0 \ ∅) (fun d => (Rd X).payload (dcell c k j s) 0 d) = pay X k c j s := by
  rw [Finset.sdiff_empty, duties_dma X h, bigSep_singleton, payload_dma]
/-- All that the wait on the barrier brings: the slots of the 31 others. -/
theorem rest_bar (c : Dev nD) :
    bigSep ((Rd X).duties (bcell c) 0 \ ∅) (fun d => (Rd X).payload (bcell c) 0 d) = bigSep (Finset.univ : Finset (Fin 31)) fun r => barPay c (tgt c r) := by
  rw [Finset.sdiff_empty, duties_bar, erase_eq_map, bigSep_map]; rfl

/-! ## One device and the others -/

omit [FloatOps F] in
/-- A family over the devices: a device's own member and the 31 others'. -/
theorem bigSep_others (c : Dev nD) (Φ : Dev nD → sProp 𝕄) :
    bigSep Finset.univ Φ = iprop(Φ c ∗ bigSep (Finset.univ : Finset (Fin 31)) fun r => Φ (tgt c r)) := by
  rw [bigSep_univ_split c, erase_eq_map, bigSep_map]; rfl

/-- A sum over the 31 devices after `c` is the sum over the devices other than `c`. -/
theorem sum_others {M : Type} [AddCommMonoid M] (c : Dev nD) (f : Dev nD → M) :
    (∑ r : Fin 31, f (tgt c r)) = ∑ t ∈ Finset.univ.erase c, f t := by
  rw [erase_eq_map, Finset.sum_map]; rfl

/-! ## The levels -/

/-- Which semaphores have a level. -/
def L (g : GSem nD τ sig) : Finset Unit := if g.1.2 = .tc then {()} else ∅
/-- Barriers at 1, arrivals of the reduce-scatter at 2, of the all-gather at 3, everything else at 0. -/
def lv (g : GSem nD τ sig) (_ : Unit) : ℕ := match g.2 with
  | .reg _ => 1
  | .dma n => match decD n with
    | some (k, _, _) => if k = 1 then 2 else if k = 3 then 3 else 0
    | none => 0

/-- Only the semaphores of a device's core have a level. -/
theorem L_of_ne (g : GSem nD τ sig) (h : g.1.2 ≠ .tc) : L g = ∅ := if_neg h
/-- Every one of those has. -/
theorem L_tc (c : Dev nD) (sm : SemLoc sig) : L ((c : Thread nD τ), sm) = {()} := if_pos rfl

/-- Barriers are at level 1. -/
theorem lv_bar (c : Dev nD) : lv (bcell c) () = 1 := rfl
/-- Barriers are at most at level 1. -/
theorem lv_bar_le (c : Dev nD) : lv ((c : Thread nD τ), .reg barS) () ≤ 1 := le_of_eq (lv_bar c)
/-- Arrivals of the reduce-scatter are at level 2. -/
theorem lv_rs (c : Dev nD) (j s) : lv (dcell c 1 j s) () = 2 := by dsimp only [lv]; rw [decD_dsem]; rfl
/-- Arrivals of the reduce-scatter are at most at level 2. -/
theorem lv_rs_le (c : Dev nD) (j s) : lv ((c : Thread nD τ), .dma (dsem 1 j s)) () ≤ 2 := le_of_eq (lv_rs c j s)
/-- Arrivals of the all-gather are at level 3. -/
theorem lv_ag (c : Dev nD) (j s) : lv (dcell c 3 j s) () = 3 := by dsimp only [lv]; rw [decD_dsem]; rfl

/-- Everything owed sits above the level `n`. -/
def Above (n : ℕ) (O : CellTallies nD τ sig Unit) : Prop := ∀ g u, 0 < O g u → g.1.2 = .tc ∧ n < lv g u

/-- Owing nothing is above every level. -/
theorem above_zero (n : ℕ) : Above n 0 := fun g u h => absurd h (Nat.lt_irrefl 0)
/-- Two debts above a level are above it together. -/
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
/-- Debts above a level are above it together. -/
theorem above_sum {n : ℕ} {ι : Type} (S : Finset ι) (T : ι → CellTallies nD τ sig Unit) (h : ∀ i ∈ S, Above n (T i)) : Above n (∑ i ∈ S, T i) :=
  Finset.sum_induction T (Above n) (fun _ _ => above_add) (above_zero n) h
/-- A debt to a semaphore above a level is above it. -/
theorem above_tally {n : ℕ} {c : Dev nD} {sm : SemLoc sig} {k : ℕ} (h : n < lv ((c : Thread nD τ), sm) ()) :
    Above n (tallyAt ((c : Thread nD τ), sm) () k) := fun g u hp => by
  rw [tallyAt_apply] at hp
  by_cases hg : g = ((c : Thread nD τ), sm) ∧ u = ()
  · obtain ⟨rfl, rfl⟩ := hg; exact ⟨rfl, h⟩
  · rw [if_neg hg] at hp; exact absurd hp (Nat.lt_irrefl 0)

omit [FloatOps F] in
/-- A device may wait on a semaphore at or below a level that all its debts are above. -/
theorem mayWait_above {n : ℕ} {O : CellTallies nD τ sig Unit} (c : Dev nD) (sm : SemLoc sig) (hsm : lv ((c : Thread nD τ), sm) () ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hsm)
    (fun g u hg => (h g u hg).2)

/-! ## What a device owes -/

/-- The terms from the `n`-th on. -/
def rem {M : Type} [AddCommMonoid M] (T : Fin 31 → M) (n : ℕ) : M := ∑ r ∈ Finset.univ.filter (fun r : Fin 31 => n ≤ r.val), T r

/-- From the first on: all the terms. -/
theorem rem_zero {M : Type} [AddCommMonoid M] (T : Fin 31 → M) : rem T 0 = ∑ r, T r := by
  unfold rem; rw [Finset.filter_true_of_mem fun r _ => Nat.zero_le _]
/-- From the 31st on: none. -/
theorem rem_end {M : Type} [AddCommMonoid M] (T : Fin 31 → M) : rem T 31 = 0 := by
  unfold rem; rw [Finset.filter_false_of_mem fun r _ => by omega]; rfl
/-- The terms from the `r`-th on are the `r`-th and those after it. -/
theorem rem_step {M : Type} [AddCommMonoid M] (T : Fin 31 → M) (r : Fin 31) : rem T r.val = rem T (r.val + 1) + T r := by
  unfold rem
  have h : (Finset.univ.filter fun r' : Fin 31 => r.val ≤ r'.val) = insert r (Finset.univ.filter fun r' : Fin 31 => r.val + 1 ≤ r'.val) := by
    ext r'
    simp only [Finset.mem_filter, Finset.mem_univ, true_and, Finset.mem_insert, Fin.ext_iff]
    omega
  rw [h, Finset.sum_insert (by simp), add_comm]

/-- What the `r`-th signal pays. -/
def TB (c : Dev nD) (r : Fin 31) : CellTallies nD τ sig Unit := tallyAt (bcell (tgt c r)) () 1
/-- What the `r`-th copy of the reduce-scatter's segment `s` pays on its arrival. -/
def TR (c : Dev nD) (s : Fin 2) (r : Fin 31) : CellTallies nD τ sig Unit := tallyAt (dcell (tgt c r) 1 c s) () N
/-- What the `r`-th copy of the all-gather's segment `s` pays on its arrival. -/
def TG (c : Dev nD) (s : Fin 2) (r : Fin 31) : CellTallies nD τ sig Unit := tallyAt (dcell (tgt c r) 3 c s) () N

/-- What is owed before the second segment's gathering copies, before the first's, before the second segment's
    scattering copies, before the first's, and at launch. -/
def O₄ (c : Dev nD) : CellTallies nD τ sig Unit := ∑ r, TG c 1 r
/-- What is owed before the first segment's gathering copies. -/
def O₃ (c : Dev nD) : CellTallies nD τ sig Unit := O₄ c + ∑ r, TG c 0 r
/-- What is owed before the second segment's scattering copies. -/
def O₂ (c : Dev nD) : CellTallies nD τ sig Unit := O₃ c + ∑ r, TR c 1 r
/-- What is owed before the first segment's scattering copies. -/
def O₁ (c : Dev nD) : CellTallies nD τ sig Unit := O₂ c + ∑ r, TR c 0 r
/-- What is owed at launch. -/
def O₀ (c : Dev nD) : CellTallies nD τ sig Unit := O₁ c + ∑ r, TB c r

/-- The all-gather's debts are above level 2. -/
theorem above_TG (c : Dev nD) (s) : Above 2 (∑ r, TG c s r) := above_sum _ _ fun r _ => above_tally (by rw [lv_ag]; decide)
/-- The reduce-scatter's debts are above level 1. -/
theorem above_TR (c : Dev nD) (s) : Above 1 (∑ r, TR c s r) := above_sum _ _ fun r _ => above_tally (by rw [lv_rs]; decide)
/-- The signals' debts are above level 0. -/
theorem above_TB (c : Dev nD) : Above 0 (∑ r, TB c r) := above_sum _ _ fun r _ => above_tally (by rw [lv_bar]; decide)
/-- A debt above a level is above every lower one. -/
theorem above_mono {n n' : ℕ} (hn : n ≤ n') {O : CellTallies nD τ sig Unit} (h : Above n' O) : Above n O :=
  fun g u hp => ⟨(h g u hp).1, lt_of_le_of_lt hn (h g u hp).2⟩
/-- What is owed before the second segment's gathering copies is above level 2. -/
theorem above_O₄ (c : Dev nD) : Above 2 (O₄ c) := above_TG c 1
/-- What is owed before the first segment's gathering copies is above level 2. -/
theorem above_O₃ (c : Dev nD) : Above 2 (O₃ c) := above_add (above_O₄ c) (above_TG c 0)
/-- What is owed after the signals is above level 1. -/
theorem above_O₁ (c : Dev nD) : Above 1 (O₁ c) :=
  above_add (above_add (above_mono (by decide) (above_O₃ c)) (above_TR c 1)) (above_TR c 0)
/-- What is owed at launch is above level 0. -/
theorem above_O₀ (c : Dev nD) : Above 0 (O₀ c) := above_add (above_mono (by decide) (above_O₁ c)) (above_TB c)

/-- A device may wait on its barrier while it owes all the copies. -/
theorem mayWait_bar (c : Dev nD) : (levAts L lv : sProp 𝕄) ⊢ MayWait (c : Thread nD τ) (.reg barS) () (O₁ c) :=
  mayWait_above c (.reg barS) (lv_bar_le c) (above_O₁ c)
/-- A device may wait for a chunk of the reduce-scatter while it owes copies of the all-gather. -/
theorem mayWait_rs (c : Dev nD) (j : Fin 32) (s : Fin 2) {O : CellTallies nD τ sig Unit} (h : Above 2 O) :
    (levAts L lv : sProp 𝕄) ⊢ MayWait (c : Thread nD τ) (.dma (dsem 1 j s)) () O :=
  mayWait_above c (.dma (dsem 1 j s)) (lv_rs_le c j s) h

end Cert.AllReduce

end
-- ==== Proof.Steps.lean ====
/-
# The steps of the body

Each stretch of the body as one rule: what it starts from, what it leaves, for any program after it.
-/
module

public import proofs.«01_k».proof.Proof.Sched

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the program needs a variant. -/
abbrev 𝒱₀ : Variants := Variants.none

/-- The weakest precondition of a program on device `c`. -/
abbrev WPc (c : Dev nD) {α : Type} (p : KProg F α) (Q : α → sProp 𝕄) : sProp 𝕄 :=
  wp frame (wpE (defs₀ (F := F)) 𝒱₀ (c : Thread nD τ) none) Set.univ p Q

/-! ## Chains -/

omit [FloatOps F] in
/-- A family's first member and the rest. -/
theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]; rfl

/-- A chain whose `r`-th program takes `A r` and leaves `B r`, passing `I` on. -/
theorem wp_chain (c : Dev nD) {α : Type} {Q : α → sProp 𝕄} (C : sProp 𝕄) [BI.Persistent C] (k : PUnit → KProg F α) :
    ∀ (n : ℕ) (P : Fin n → KProg F PUnit) (A B : Fin n → sProp 𝕄) (I : ℕ → sProp 𝕄)
      (h : ∀ (r : Fin n) (k' : PUnit → KProg F α),
        iprop(C ∗ A r ∗ I r.val ∗ ((B r ∗ I (r.val + 1)) -∗ WPc c (k' ⟨⟩) Q)) ⊢ WPc c (P r >>= k') Q),
      iprop(C ∗ bigSep Finset.univ A ∗ I 0 ∗ ((bigSep Finset.univ B ∗ I n) -∗ WPc c (k ⟨⟩) Q)) ⊢ WPc c (chain n P >>= k) Q
  | 0, P, A, B, I, h => by
    rw [Finset.univ_eq_empty, bigSep_empty, bigSep_empty]
    show _ ⊢ WPc c (k ⟨⟩) Q
    iintro ⟨-, -, HI, Hk⟩
    iapply Hk
    isplitr; · iempintro
    iexact HI
  | n + 1, P, A, B, I, h => by
    have h0 : ∀ k' : PUnit → KProg F α, iprop(C ∗ A 0 ∗ I 0 ∗ ((B 0 ∗ I 1) -∗ WPc c (k' ⟨⟩) Q)) ⊢ WPc c (P 0 >>= k') Q := fun k' => h 0 k'
    have ih : iprop(C ∗ (bigSep Finset.univ fun i : Fin n => A i.succ) ∗ I 1 ∗ (((bigSep Finset.univ fun i : Fin n => B i.succ) ∗ I (n + 1)) -∗ WPc c (k ⟨⟩) Q))
        ⊢ WPc c ((chain n fun i => P i.succ) >>= k) Q :=
      wp_chain c C k n (fun i => P i.succ) (fun i => A i.succ) (fun i => B i.succ) (fun i => I (i + 1)) fun r k' => h r.succ k'
    rw [bigSep_first A, bigSep_first B]
    show _ ⊢ WPc c ((P 0 >>= fun _ => chain n fun i => P i.succ) >>= k) Q
    rw [bind_assoc]
    iintro ⟨#HC, ⟨HA, HAs⟩, HI, Hk⟩
    iapply (h0 fun _ => (chain n fun i => P i.succ) >>= k)
    isplitr; · iexact HC
    isplitl [HA]; · iexact HA
    isplitl [HI]; · iexact HI
    iintro ⟨HB, HI⟩
    iapply ih
    isplitr; · iexact HC
    isplitl [HAs]; · iexact HAs
    isplitl [HI]; · iexact HI
    iintro ⟨HBs, HI⟩
    iapply Hk
    isplitl [HB HBs]
    · isplitl [HB] <;> iassumption
    iexact HI

/-! ## The records -/

/-- A device's semaphores: its barrier, and `(k, s, j)` for the semaphore `(j, s)` of the `k`-th array. -/
abbrev CI : Type := Unit ⊕ (Fin 4 × Fin 2 × Fin 32)
/-- A device's semaphore by its name. -/
def csem : CI → SemLoc sig
  | .inl _ => .reg barS
  | .inr p => .dma (dsem p.1 p.2.2 p.2.1)
/-- The semaphore of a device by its name. -/
abbrev kcell (ck : Dev nD × CI) : GSem nD τ sig := ((ck.1 : Thread nD τ), csem ck.2)

variable (X : Dev nD → S1024x512.Idx → Elt F .bf16) (K : Dev nD × CI → ℕ)

/-- Every cell's invariant, that every cell is at round 0, and the levels. -/
def Rec : sProp 𝕄 :=
  iprop((bigSep Finset.univ fun ck : Dev nD × CI => cellInv ER (Rd X) (K ck) (kcell ck))
    ∗ (bigSep Finset.univ fun ck : Dev nD × CI => reached ER (kcell ck) 0) ∗ levAts L lv)

instance Rec_persistent : BI.Persistent (Rec X K) := by unfold Rec; infer_instance

/-- Every barrier follows the protocol. -/
theorem Rec_inv_bar (t : Dev nD) : Rec X K ⊢ cellInv ER (Rd X) (K (t, .inl ())) (bcell t) :=
  sep_elim_left.trans (bigSep_elim (Finset.mem_univ ((t, .inl ()) : Dev nD × CI)))
/-- Every copy semaphore follows the protocol. -/
theorem Rec_inv (t : Dev nD) (k s j) : Rec X K ⊢ cellInv ER (Rd X) (K (t, .inr (k, s, j))) (dcell t k j s) :=
  sep_elim_left.trans (bigSep_elim (Finset.mem_univ ((t, .inr (k, s, j)) : Dev nD × CI)))
/-- Every barrier has reached its first round. -/
theorem Rec_reached_bar (t : Dev nD) : Rec X K ⊢ reached ER (bcell t) 0 :=
  sep_elim_right.trans (sep_elim_left.trans (bigSep_elim (Finset.mem_univ ((t, .inl ()) : Dev nD × CI))))
/-- Every copy semaphore has reached its first round. -/
theorem Rec_reached (t : Dev nD) (k s j) : Rec X K ⊢ reached ER (dcell t k j s) 0 :=
  sep_elim_right.trans (sep_elim_left.trans (bigSep_elim (Finset.mem_univ ((t, .inr (k, s, j)) : Dev nD × CI))))
/-- A device may wait on its barrier once it has signalled. -/
theorem Rec_wait_bar (c : Dev nD) : Rec X K ⊢ MayWait (c : Thread nD τ) (.reg barS) () (O₁ c) := by
  unfold Rec; iintro ⟨-, -, H⟩; iapply (mayWait_bar c); iexact H
/-- A device may wait for a chunk of the reduce-scatter while all that it owes is above level 2. -/
theorem Rec_wait_rs (c : Dev nD) (j : Fin 32) (s : Fin 2) {O : CellTallies nD τ sig Unit} (h : Above 2 O) :
    Rec X K ⊢ MayWait (c : Thread nD τ) (.dma (dsem 1 j s)) () O := by
  unfold Rec; iintro ⟨-, -, H⟩; iapply (mayWait_rs c j s h); iexact H

/-- A device that owes `O`. -/
def owing (c : Dev nD) (O : CellTallies nD τ sig Unit) : sProp 𝕄 := iprop(∃ W : Waits sig Unit, owes (c : Thread nD τ) O W)

/-! ## The signals -/

/-- One signal, which hands over the slots that its receiver will write. -/
theorem sig_step (c : Dev nD) {α : Type} (Q : α → sProp 𝕄) (r : Fin 31) (k : PUnit → KProg F α) :
    iprop(Rec X K ∗ (dutyTok ER (bcell (tgt c r)) 0 c ∗ barPay (tgt c r) c) ∗ owing c (O₁ c + rem (TB c) r.val)
        ∗ ((emp ∗ owing c (O₁ c + rem (TB c) (r.val + 1))) -∗ WPc c (k ⟨⟩) Q))
      ⊢ WPc c (sigOp (tgt c r) >>= k) Q := by
  unfold sigOp WPc
  simp only [semSignalWord, Prog.lift, Prog.bind_op, Prog.bind_ret, Prog.pure_eq_ret]
  unfold owing
  iintro ⟨#HR, ⟨Htok, Hpay⟩, ⟨%W, HO⟩, Hk⟩
  iapply (Rounds.wp_signal 𝒱₀ ER (Rd X) (c : Thread nD τ) none (dst := (tgt c r : Thread nD τ)) (κ := K (tgt c r, .inl ()))
      (r := 0) (d := c) (by rw [duties_bar]; exact Finset.mem_erase.mpr ⟨(tgt_ne c r).symm, Finset.mem_univ _⟩)
      ((amount_bar X (tgt c r) c).trans (by decide)) () (O₀ := O₁ c + rem (TB c) r.val) (O₁ c + rem (TB c) (r.val + 1)) (by rw [rem_step, add_assoc]; rfl) (W := W)) $$ [HO Htok Hpay]
  · isplitr; · iapply (Rec_inv_bar X K (tgt c r)); iexact HR
    isplitl [HO]; · iexact HO
    isplitl [Htok]; · iexact Htok
    isplitl [Hpay]; · iapply (Entails.of_eq (payload_bar X (tgt c r) c).symm); iexact Hpay
    iapply (Rec_reached_bar X K (tgt c r)); iexact HR
  iintro HO
  iapply Hk
  isplitr; · iempintro
  iexists W; iexact HO

/-- All 31 signals. -/
theorem signals (c : Dev nD) {α : Type} (Q : α → sProp 𝕄) (k : PUnit → KProg F α) :
    iprop(Rec X K ∗ (bigSep Finset.univ fun r => iprop(dutyTok ER (bcell (tgt c r)) 0 c ∗ barPay (tgt c r) c)) ∗ owing c (O₀ c)
        ∗ (owing c (O₁ c) -∗ WPc c (k ⟨⟩) Q))
      ⊢ WPc c ((chain 31 fun r => sigOp (tgt c r)) >>= k) Q := by
  iintro ⟨#HR, HA, HO, Hk⟩
  iapply (wp_chain c (Rec X K) k 31 (fun r => sigOp (tgt c r)) (fun r => iprop(dutyTok ER (bcell (tgt c r)) 0 c ∗ barPay (tgt c r) c)) (fun _ => iprop(emp))
    (fun n => owing c (O₁ c + rem (TB c) n)) (sig_step X K c Q))
  isplitr; · iexact HR
  isplitl [HA]; · iexact HA
  rw [rem_zero, rem_end, add_zero]
  isplitl [HO]; · iexact HO
  iintro ⟨-, HO⟩
  iapply Hk; iexact HO

/-- The wait on the barrier, which brings the slots that the device will write on the 31 others. -/
theorem bar_wait (c : Dev nD) {α : Type} (Q : α → sProp 𝕄) (k : PUnit → KProg F α) :
    iprop(Rec X K ∗ cred (tallyAt (bcell c) () 31) ∗ atPos ER (bcell c) 0 ∅ 0 ∗ owing c (O₁ c)
        ∗ ((atPos ER (bcell c) 1 ∅ 0 ∗ owing c (O₁ c) ∗ bigSep (Finset.univ : Finset (Fin 31)) fun r => barPay c (tgt c r)) -∗ WPc c (k ⟨⟩) Q))
      ⊢ WPc c (barWait >>= k) Q := by
  unfold barWait WPc
  simp only [semWaitWord, Prog.lift, Prog.bind_op, Prog.bind_ret, Prog.pure_eq_ret]
  unfold owing
  iintro ⟨#HR, HC, Hat, ⟨%W, HO⟩, Hk⟩
  iapply (Rounds.wp_wait_rest_token 𝒱₀ ER (Rd X) (c : Thread nD τ) none (κ := K (c, .inl ()))
      (wpE_semWait_eq 𝒱₀ (c : Thread nD τ) none Set.univ) (Set.mem_univ _) () (O := O₁ c) (W := W) (R := 0) (m := 0) (T := ∅)
      (by rw [expect_bar]; decide)) $$ [HC HO Hat]
  · isplitr; · iapply (Rec_inv_bar X K c); iexact HR
    isplitl [HC]; · iexact HC
    isplitl [HO]; · iexact HO
    isplitr; · iapply (Rec_wait_bar X K c); iexact HR
    iexact Hat
  iintro ⟨HO, Hat, -, Hpay⟩
  ihave Hp := (Entails.of_eq (rest_bar X c)) $$ Hpay
  iapply Hk
  isplitl [Hat]; · iexact Hat
  isplitl [HO]; · iexists _; iexact HO
  iexact Hp

/-! ## The copies -/

/-- A copy into a slot of `rM` has the credit of one copy. -/
theorem credit_r (j : Fin 32) (s : Fin 2) (sm : DmaSem sig) : (slot rM j s).view.amount (.dma sm) = N := rfl
/-- A copy into a slot of `gM` has the credit of one copy. -/
theorem credit_g (j : Fin 32) (s : Fin 2) (sm : DmaSem sig) : (slot gM j s).view.amount (.dma sm) = N := rfl
/-- A copy out of a slot of `bM` has the credit of one copy. -/
theorem credit_b (j : Fin 32) (s : Fin 2) : (slot bM j s).view.dmaCredit = N := rfl
/-- A copy out of a segment of `aM` has the credit of one copy. -/
theorem credit_a (s : Fin 2) : (seg aM s).view.dmaCredit = N := rfl

/-- A slot of `bM` as a copy's source. -/
theorem src_b (c : Dev nD) (j : Fin 32) (s : Fin 2) (f : C4 F) :
    (bP c j s f : sProp 𝕄) = ((slot bM j s).view.loc (c : Thread nD τ) ↦[(slot bM j s).view.set]{fullShare} f) := by
  unfold bP; rw [slot_set_b]
/-- A slot of `rM` as a copy's destination. -/
theorem dst_r (c : Dev nD) (j : Fin 32) (s : Fin 2) (f : C4 F) :
    (rP c j s f : sProp 𝕄) = ((slot rM j s).view.loc (c : Thread nD τ) ↦[(slot rM j s).view.set]{fullShare} f) := by
  unfold rP; rw [slot_set_r]
/-- A slot of `gM` as a copy's destination. -/
theorem dst_g (c : Dev nD) (j : Fin 32) (s : Fin 2) (f : C4 F) :
    (gP c j s f : sProp 𝕄) = ((slot gM j s).view.loc (c : Thread nD τ) ↦[(slot gM j s).view.set]{fullShare} f) := by
  unfold gP; rw [slot_set_g]
/-- A segment of `aM` as a copy's source. -/
theorem src_a (c : Dev nD) (s : Fin 2) (q : PosShare TreeShare) (f : C3 F) :
    (aP c s q f : sProp 𝕄) = ((seg aM s).view.loc (c : Thread nD τ) ↦[(seg aM s).view.set]{q} f) := by
  unfold aP; rw [seg_set]
/-- A slot of `rM` once a chunk has landed in it. -/
theorem landed_r (c t : Dev nD) (s : Fin 2) (f : C4 F) :
    ((slot rM c s).view.loc (t : Thread nD τ) ↦[(slot rM c s).view.set]{fullShare}
      ((slot rM c s).view.write (Elt F) f ((slot bM t s).view.read (Elt F) (BX X c)) Finset.univ) : sProp 𝕄) = rP t c s (RC X t) := by
  rw [dst_r, slot_set_r]; exact pointsTo_congr (land_rs X c t s f)
/-- A slot of `gM` once a reduced segment has landed in it. -/
theorem landed_g (c t : Dev nD) (s : Fin 2) (f : C4 F) :
    ((slot gM c s).view.loc (t : Thread nD τ) ↦[(slot gM c s).view.set]{fullShare}
      ((slot gM c s).view.write (Elt F) f ((seg aM s).view.read (Elt F) (AC X c)) Finset.univ) : sProp 𝕄) = gP t c s (GC X) := by
  rw [dst_g, slot_set_g]; exact pointsTo_congr (land_ag X c s f)

/-- One copy of a segment of a chunk to another device. -/
theorem rs_step (c : Dev nD) (s : Fin 2) (O : CellTallies nD τ sig Unit) {α : Type} (Q : α → sProp 𝕄) (r : Fin 31) (k : PUnit → KProg F α) :
    iprop(Rec X K ∗ (bP c (tgt c r) s (BX X c) ∗ (∃ f, rP (tgt c r) c s f) ∗ dutyTok ER (dcell c 0 (tgt c r) s) 0 (tgt c r) ∗ dutyTok ER (dcell (tgt c r) 1 c s) 0 c)
        ∗ owing c (O + rem (TR c s) r.val)
        ∗ ((cred (tallyAt (dcell c 0 (tgt c r) s) () N) ∗ owing c (O + rem (TR c s) (r.val + 1))) -∗ WPc c (k ⟨⟩) Q))
      ⊢ WPc c (rsSend c s r >>= k) Q := by
  unfold rsSend sendOp WPc owing
  simp only [Prog.lift, Prog.bind_op, Prog.bind_ret]
  iintro ⟨#HR, ⟨Hb, ⟨%f, Hr⟩, Ht0, Ht1⟩, ⟨%W, HO⟩, Hk⟩
  ihave Hb' := (Entails.of_eq (src_b c (tgt c r) s (BX X c))) $$ Hb
  ihave Hr' := (Entails.of_eq (dst_r (tgt c r) c s f)) $$ Hr
  iapply (Rounds.wp_send_pointsTo 𝒱₀ ER (Rd X) (c : Thread nD τ) none (κ₁ := K (c, .inr (0, s, tgt c r))) (κ₂ := K (tgt c r, .inr (1, s, c)))
      (r₁ := 0) (r₂ := 0) (d₁ := tgt c r) (d₂ := c) (q := fullShare) (fs := BX X c) (fd := f)
      (by rw [duties_dma X (tgt_ne c r)]; exact Finset.mem_singleton_self _)
      (by rw [duties_dma X (tgt_ne c r).symm]; exact Finset.mem_singleton_self _)
      () () N (credit_r c s _) (amount_dma X c 0 _ s _) (amount_dma X _ 1 c s _) (O₀ := O + rem (TR c s) r.val) (O + rem (TR c s) (r.val + 1)) (by rw [rem_step, add_assoc]; rfl) (W := W)
      (by rw [payload_dma]; exact Entails.of_eq (src_b c (tgt c r) s (BX X c)).symm)
      (by rw [payload_dma]; exact Entails.of_eq (landed_r X c (tgt c r) s f))) $$ [Hb' Hr' HO Ht0 Ht1]
  · isplitr; · iapply (Rec_inv X K c 0 s (tgt c r)); iexact HR
    isplitr; · iapply (Rec_inv X K (tgt c r) 1 s c); iexact HR
    isplitl [Hb']; · iexact Hb'
    isplitl [Hr']; · iexact Hr'
    isplitl [HO]; · iexact HO
    isplitl [Ht0]; · iexact Ht0
    isplitr; · iapply (Rec_reached X K c 0 s (tgt c r)); iexact HR
    isplitl [Ht1]; · iexact Ht1
    iapply (Rec_reached X K (tgt c r) 1 s c); iexact HR
  iintro ⟨HC, HO⟩
  iapply Hk
  isplitl [HC]; · iexact HC
  iexists W; iexact HO

end Cert.AllReduce

end
-- ==== Proof.Ops.lean ====
/-
# The stretches of the body

The copies to all the other devices, the waits for all the copies, and the loads and stores between them.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (X : Dev nD → S1024x512.Idx → Elt F .bf16) (K : Dev nD × CI → ℕ)

/-! ## The copies -/

/-- One copy of a reduced segment to another device. -/
theorem ag_step (c : Dev nD) (s : Fin 2) (O : CellTallies nD τ sig Unit) {α : Type} (Q : α → sProp 𝕄) (r : Fin 31) (k : PUnit → KProg F α) :
    iprop(Rec X K ∗ (aP c s (shr (tgt c r)) (AC X c) ∗ (∃ f, gP (tgt c r) c s f) ∗ dutyTok ER (dcell c 2 (tgt c r) s) 0 (tgt c r) ∗ dutyTok ER (dcell (tgt c r) 3 c s) 0 c)
        ∗ owing c (O + rem (TG c s) r.val)
        ∗ ((cred (tallyAt (dcell c 2 (tgt c r) s) () N) ∗ owing c (O + rem (TG c s) (r.val + 1))) -∗ WPc c (k ⟨⟩) Q))
      ⊢ WPc c (agSend c s r >>= k) Q := by
  unfold agSend sendOp WPc owing
  simp only [Prog.lift, Prog.bind_op, Prog.bind_ret]
  iintro ⟨#HR, ⟨Ha, ⟨%f, Hg⟩, Ht0, Ht1⟩, ⟨%W, HO⟩, Hk⟩
  ihave Ha' := (Entails.of_eq (src_a c s (shr (tgt c r)) (AC X c))) $$ Ha
  ihave Hg' := (Entails.of_eq (dst_g (tgt c r) c s f)) $$ Hg
  iapply (Rounds.wp_send_pointsTo 𝒱₀ ER (Rd X) (c : Thread nD τ) none (κ₁ := K (c, .inr (2, s, tgt c r))) (κ₂ := K (tgt c r, .inr (3, s, c)))
      (r₁ := 0) (r₂ := 0) (d₁ := tgt c r) (d₂ := c) (q := shr (tgt c r)) (fs := AC X c) (fd := f)
      (by rw [duties_dma X (tgt_ne c r)]; exact Finset.mem_singleton_self _)
      (by rw [duties_dma X (tgt_ne c r).symm]; exact Finset.mem_singleton_self _)
      () () N (credit_g c s _) (amount_dma X c 2 _ s _) (amount_dma X _ 3 c s _) (O₀ := O + rem (TG c s) r.val) (O + rem (TG c s) (r.val + 1)) (by rw [rem_step, add_assoc]; rfl) (W := W)
      (by rw [payload_dma]; exact Entails.of_eq (src_a c s (shr (tgt c r)) (AC X c)).symm)
      (by rw [payload_dma]; exact Entails.of_eq (landed_g X c (tgt c r) s f))) $$ [Ha' Hg' HO Ht0 Ht1]
  · isplitr; · iapply (Rec_inv X K c 2 s (tgt c r)); iexact HR
    isplitr; · iapply (Rec_inv X K (tgt c r) 3 s c); iexact HR
    isplitl [Ha']; · iexact Ha'
    isplitl [Hg']; · iexact Hg'
    isplitl [HO]; · iexact HO
    isplitl [Ht0]; · iexact Ht0
    isplitr; · iapply (Rec_reached X K c 2 s (tgt c r)); iexact HR
    isplitl [Ht1]; · iexact Ht1
    iapply (Rec_reached X K (tgt c r) 3 s c); iexact HR
  iintro ⟨HC, HO⟩
  iapply Hk
  isplitl [HC]; · iexact HC
  iexists W; iexact HO

/-- All the copies of a segment's chunks. -/
theorem rs_sends (c : Dev nD) (s : Fin 2) (O : CellTallies nD τ sig Unit) {α : Type} (Q : α → sProp 𝕄) (k : PUnit → KProg F α) :
    iprop(Rec X K ∗ (bigSep Finset.univ fun r => iprop(bP c (tgt c r) s (BX X c) ∗ (∃ f, rP (tgt c r) c s f)
            ∗ dutyTok ER (dcell c 0 (tgt c r) s) 0 (tgt c r) ∗ dutyTok ER (dcell (tgt c r) 1 c s) 0 c))
        ∗ owing c (O + ∑ r, TR c s r)
        ∗ (((bigSep Finset.univ fun r => cred (tallyAt (dcell c 0 (tgt c r) s) () N)) ∗ owing c O) -∗ WPc c (k ⟨⟩) Q))
      ⊢ WPc c (chain 31 (rsSend c s) >>= k) Q := by
  have h := wp_chain c (Q := Q) (Rec X K) k 31 (rsSend c s) _ _ (fun n => owing c (O + rem (TR c s) n)) (rs_step X K c s O Q)
  rw [rem_zero, rem_end, add_zero] at h
  exact h

/-- All the copies of a reduced segment. -/
theorem ag_sends (c : Dev nD) (s : Fin 2) (O : CellTallies nD τ sig Unit) {α : Type} (Q : α → sProp 𝕄) (k : PUnit → KProg F α) :
    iprop(Rec X K ∗ (bigSep Finset.univ fun r => iprop(aP c s (shr (tgt c r)) (AC X c) ∗ (∃ f, gP (tgt c r) c s f)
            ∗ dutyTok ER (dcell c 2 (tgt c r) s) 0 (tgt c r) ∗ dutyTok ER (dcell (tgt c r) 3 c s) 0 c))
        ∗ owing c (O + ∑ r, TG c s r)
        ∗ (((bigSep Finset.univ fun r => cred (tallyAt (dcell c 2 (tgt c r) s) () N)) ∗ owing c O) -∗ WPc c (k ⟨⟩) Q))
      ⊢ WPc c (chain 31 (agSend c s) >>= k) Q := by
  have h := wp_chain c (Q := Q) (Rec X K) k 31 (agSend c s) _ _ (fun n => owing c (O + rem (TG c s) n)) (ag_step X K c s O Q)
  rw [rem_zero, rem_end, add_zero] at h
  exact h

/-! ## The waits -/

/-- A wait on the semaphore `(kk, t, s)`, `t` another device: what its duty hands over. -/
theorem wait_step (c t : Dev nD) (ht : t ≠ c) (kk : Fin 4) (s : Fin 2) (O : CellTallies nD τ sig Unit)
    (hW : Rec X K ⊢ MayWait (c : Thread nD τ) (.dma (dsem kk t s)) () O)
    {src dst : Memref sig .tc .vmem S16x512 .bf16} {hs : src.view.WordExact} {hd : dst.view.WordExact} (hN : dst.view.dmaCredit = N)
    {α : Type} (Q : α → sProp 𝕄) (k : PUnit → KProg F α) :
    iprop(Rec X K ∗ (cred (tallyAt (dcell c kk t s) () N) ∗ atPos ER (dcell c kk t s) 0 ∅ 0) ∗ owing c O
        ∗ (((atPos ER (dcell c kk t s) 1 ∅ 0 ∗ pay X kk c t s) ∗ owing c O) -∗ WPc c (k ⟨⟩) Q))
      ⊢ WPc c (waitOp (dsem kk t s) src dst hs hd >>= k) Q := by
  unfold waitOp WPc owing
  simp only [Prog.lift, Prog.bind_op, Prog.bind_ret]
  iintro ⟨#HR, ⟨HC, Hat⟩, ⟨%W, HO⟩, Hk⟩
  iapply (Rounds.wp_wait_rest_token 𝒱₀ ER (Rd X) (c : Thread nD τ) none (κ := K (c, .inr (kk, s, t)))
      (wpE_waitDma2_eq 𝒱₀ (c : Thread nD τ) none Set.univ) (Set.mem_univ _) () (O := O) (W := W) (R := 0) (m := 0) (T := ∅)
      (by rw [Nat.zero_add, expect_dma X ht])) $$ [HC HO Hat]
  · isplitr; · iapply (Rec_inv X K c kk s t); iexact HR
    isplitl [HC]; · rw [hN]; iexact HC
    isplitl [HO]; · iexact HO
    isplitr; · iapply hW; iexact HR
    iexact Hat
  iintro ⟨HO, Hat, -, Hpay⟩
  ihave Hp := (Entails.of_eq (rest_dma X ht kk s)) $$ Hpay
  iapply Hk
  isplitl [Hat Hp]
  · isplitl [Hat]; · iexact Hat
    iexact Hp
  iexists _; iexact HO

/-- A device that owes nothing may wait on anything. -/
theorem Rec_wait_zero (c : Dev nD) (sm : SemLoc sig) : Rec X K ⊢ MayWait (c : Thread nD τ) sm () 0 := by
  rw [MayWait_zero]; iintro -; iempintro

/-- The waits for all the chunks of a segment. -/
theorem rs_waits (c : Dev nD) (s : Fin 2) (O : CellTallies nD τ sig Unit) (hO : Above 2 O) {α : Type} (Q : α → sProp 𝕄) (k : PUnit → KProg F α) :
    iprop(Rec X K ∗ (bigSep Finset.univ fun r => iprop(cred (tallyAt (dcell c 1 (tgt c r) s) () N) ∗ atPos ER (dcell c 1 (tgt c r) s) 0 ∅ 0)) ∗ owing c O
        ∗ (((bigSep Finset.univ fun r => iprop(atPos ER (dcell c 1 (tgt c r) s) 1 ∅ 0 ∗ rP c (tgt c r) s (RC X c))) ∗ owing c O) -∗ WPc c (k ⟨⟩) Q))
      ⊢ WPc c (chain 31 (rsWait c s) >>= k) Q :=
  wp_chain c (Q := Q) (Rec X K) k 31 (rsWait c s) _ _ (fun _ => owing c O)
    fun r k' => wait_step X K c (tgt c r) (tgt_ne c r) 1 s O (Rec_wait_rs X K c (tgt c r) s hO) (credit_r (tgt c r) s 0) Q k'

/-- The waits for all the reduced chunks of a segment. -/
theorem ag_waits (c : Dev nD) (s : Fin 2) {α : Type} (Q : α → sProp 𝕄) (k : PUnit → KProg F α) :
    iprop(Rec X K ∗ (bigSep Finset.univ fun r => iprop(cred (tallyAt (dcell c 3 (tgt c r) s) () N) ∗ atPos ER (dcell c 3 (tgt c r) s) 0 ∅ 0)) ∗ owing c 0
        ∗ (((bigSep Finset.univ fun r => iprop(atPos ER (dcell c 3 (tgt c r) s) 1 ∅ 0 ∗ gP c (tgt c r) s (GC X))) ∗ owing c 0) -∗ WPc c (k ⟨⟩) Q))
      ⊢ WPc c (chain 31 (agWait c s) >>= k) Q :=
  wp_chain c (Q := Q) (Rec X K) k 31 (agWait c s) _ _ (fun _ => owing c 0)
    fun r k' => wait_step X K c (tgt c r) (tgt_ne c r) 3 s 0 (Rec_wait_zero X K c _) (credit_g (tgt c r) s 0) Q k'

/-- The waits for all the copies of a segment sent: their sources back. -/
theorem backs (c : Dev nD) (s : Fin 2) {α : Type} (Q : α → sProp 𝕄) (k : PUnit → KProg F α) :
    iprop(Rec X K
        ∗ (bigSep Finset.univ fun r => iprop((cred (tallyAt (dcell c 0 (tgt c r) s) () N) ∗ atPos ER (dcell c 0 (tgt c r) s) 0 ∅ 0)
            ∗ cred (tallyAt (dcell c 2 (tgt c r) s) () N) ∗ atPos ER (dcell c 2 (tgt c r) s) 0 ∅ 0)) ∗ owing c 0
        ∗ (((bigSep Finset.univ fun r => iprop((atPos ER (dcell c 0 (tgt c r) s) 1 ∅ 0 ∗ bP c (tgt c r) s (BX X c))
            ∗ atPos ER (dcell c 2 (tgt c r) s) 1 ∅ 0 ∗ aP c s (shr (tgt c r)) (AC X c))) ∗ owing c 0) -∗ WPc c (k ⟨⟩) Q))
      ⊢ WPc c ((chain 31 fun r => do rsBack c s r; agBack c s r) >>= k) Q := by
  refine wp_chain c (Q := Q) (Rec X K) k 31 (fun r => do rsBack c s r; agBack c s r) _ _ (fun _ => owing c 0) fun r k' => ?_
  rw [bind_assoc]
  iintro ⟨#HR, ⟨H0, H2⟩, HO, Hk⟩
  iapply (wait_step X K c (tgt c r) (tgt_ne c r) 0 s 0 (Rec_wait_zero X K c _) (credit_b (tgt c r) s) Q (fun _ => agBack c s r >>= k'))
  isplitr; · iexact HR
  isplitl [H0]; · iexact H0
  isplitl [HO]; · iexact HO
  iintro ⟨H0, HO⟩
  iapply (wait_step X K c (tgt c r) (tgt_ne c r) 2 s 0 (Rec_wait_zero X K c _) (credit_a s) Q k')
  isplitr; · iexact HR
  isplitl [H2]; · iexact H2
  isplitl [HO]; · iexact HO
  iintro ⟨H2, HO⟩
  iapply Hk
  isplitl [H0 H2]
  · isplitl [H0]; · iexact H0
    iexact H2
  iexact HO

/-! ## The loads and stores -/

/-- An access to a rectangle of a whole buffer stays within that rectangle. -/
theorem set_x (b : Ref sig .tc) (r : Rect b.ty.shape) : (Memref.whole b).view.setOn r.toLoadRect.set ⊆ r.set := by
  have h := (View.set_slice (View.whole b) r).symm.trans (View.set_slice_whole b r)
  exact h.le

/-- Cutting `x`. -/
theorem cut_step (c : Dev nD) (f : S1024x512.Idx → Elt F .bf16) (g : C4 F) {α : Type} (Q : α → sProp 𝕄) (k : PUnit → KProg F α) :
    iprop((((c : Thread nD τ).loc cc0_stg0_0) ↦{fullShare} f) ∗ (((c : Thread nD τ).loc cc0_scratch0) ↦{fullShare} g)
        ∗ (((((c : Thread nD τ).loc cc0_stg0_0) ↦{fullShare} f) ∗ (((c : Thread nD τ).loc cc0_scratch0) ↦{fullShare} (k0_pay1 f : C4 F))) -∗ WPc c (k ⟨⟩) Q))
      ⊢ WPc c (cutOp >>= k) Q := by
  unfold cutOp WPc
  simp only [Prog.lift, Prog.bind_op, Prog.bind_ret]
  iintro ⟨Hx, Hb, Hk⟩
  iapply (wp_load 𝒱₀ (c : Thread nD τ) none Set.univ (m := xM) (Finset.subset_univ _)) $$ Hx; iintro Hx
  rw [read_x]
  iapply (wp_load 𝒱₀ (c : Thread nD τ) none Set.univ (m := bM) (Finset.subset_univ _)) $$ Hb; iintro Hb
  iapply (wp_store 𝒱₀ (c : Thread nD τ) none Set.univ (m := bM) (r := wholeB) (Mk := Finset.univ) (Finset.subset_univ _)) $$ Hb; iintro Hb
  rw [write_b]
  iapply Hk
  isplitl [Hx] <;> iassumption

/-- Writing the output. -/
theorem out_step (c : Dev nD) (f : C4 F) (g : S1024x512.Idx → Elt F .f32) {α : Type} (Q : α → sProp 𝕄) (k : PUnit → KProg F α) :
    iprop((((c : Thread nD τ).loc cc0_scratch3) ↦{fullShare} f) ∗ (((c : Thread nD τ).loc cc0_stg1_0) ↦{fullShare} g)
        ∗ (((((c : Thread nD τ).loc cc0_scratch3) ↦{fullShare} f) ∗ (((c : Thread nD τ).loc cc0_stg1_0) ↦{fullShare} (k0_pay8 f : S1024x512.Idx → Elt F .f32))) -∗ WPc c (k ⟨⟩) Q))
      ⊢ WPc c (outOp >>= k) Q := by
  unfold outOp WPc
  simp only [Prog.lift, Prog.bind_op, Prog.bind_ret]
  iintro ⟨Hx, Hb, Hk⟩
  iapply (wp_load 𝒱₀ (c : Thread nD τ) none Set.univ (m := gM) (Finset.subset_univ _)) $$ Hx; iintro Hx
  rw [read_g]
  iapply (wp_load 𝒱₀ (c : Thread nD τ) none Set.univ (m := oM) (Finset.subset_univ _)) $$ Hb; iintro Hb
  iapply (wp_store 𝒱₀ (c : Thread nD τ) none Set.univ (m := oM) (r := wholeX) (Mk := Finset.univ) (Finset.subset_univ _)) $$ Hb; iintro Hb
  rw [write_o]
  iapply Hk
  isplitl [Hx] <;> iassumption

/-- The device's own chunk. -/
theorem rs_own (c : Dev nD) (s : Fin 2) (f : C4 F) {α : Type} (Q : α → sProp 𝕄) (k : PUnit → KProg F α) :
    iprop(bP c c s (BX X c) ∗ rP c c s f ∗ ((bP c c s (BX X c) ∗ rP c c s (RC X c)) -∗ WPc c (k ⟨⟩) Q))
      ⊢ WPc c (rsOwn c s >>= k) Q := by
  unfold rsOwn ownRs WPc bP rP
  simp only [Prog.lift, Prog.bind_op, Prog.bind_ret]
  iintro ⟨Hb, Hr, Hk⟩
  iapply (wp_load 𝒱₀ (c : Thread nD τ) none Set.univ (m := bM) (r := (slotR c s).toLoadRect) (S := slotSet c s) (set_x cc0_scratch0 (slotR c s))) $$ Hb; iintro Hb
  iapply (wp_load 𝒱₀ (c : Thread nD τ) none Set.univ (m := rM) (r := (slotR c s).toLoadRect) (S := slotSet c s) (set_x cc0_scratch1 (slotR c s))) $$ Hr; iintro Hr
  iapply (wp_store 𝒱₀ (c : Thread nD τ) none Set.univ (m := rM) (r := slotR c s) (Mk := Finset.univ) (S := slotSet c s) (View.set_slice_whole _ _).le) $$ Hr; iintro Hr
  ihave Hr' := (Entails.of_eq (pointsTo_congr (store_rs X c s f))) $$ Hr
  iapply Hk
  isplitl [Hb] <;> iassumption

/-- The reduction of one segment. -/
theorem reduce_step (c : Dev nD) (s : Fin 2) (f : C3 F) {α : Type} (Q : α → sProp 𝕄) (k : PUnit → KProg F α) :
    iprop((((c : Thread nD τ).loc cc0_scratch1) ↦[colSet s]{fullShare} (RC X c)) ∗ aP c s fullShare f
        ∗ (((((c : Thread nD τ).loc cc0_scratch1) ↦[colSet s]{fullShare} (RC X c)) ∗ aP c s fullShare (AC X c)) -∗ WPc c (k ⟨⟩) Q))
      ⊢ WPc c (reduce s >>= k) Q := by
  unfold reduce reduceOp WPc aP
  simp only [Prog.lift, Prog.bind_op, Prog.bind_ret]
  iintro ⟨Hr, Ha, Hk⟩
  iapply (wp_load 𝒱₀ (c : Thread nD τ) none Set.univ (m := rM) (r := (colR s).toLoadRect) (S := colSet s) (set_x cc0_scratch1 (colR s))) $$ Hr; iintro Hr
  iapply (wp_load 𝒱₀ (c : Thread nD τ) none Set.univ (m := aM) (r := (segR s).toLoadRect) (S := segSet s) (set_x cc0_scratch2 (segR s))) $$ Ha; iintro Ha
  iapply (wp_store 𝒱₀ (c : Thread nD τ) none Set.univ (m := aM) (r := segR s) (Mk := Finset.univ) (S := segSet s) (View.set_slice_whole _ _).le) $$ Ha; iintro Ha
  ihave Ha' := (Entails.of_eq (pointsTo_congr (store_acc X c s f))) $$ Ha
  iapply Hk
  isplitl [Hr] <;> iassumption

/-- The device's own reduced segment. -/
theorem ag_own (c : Dev nD) (s : Fin 2) (q : PosShare TreeShare) (f : C4 F) {α : Type} (Q : α → sProp 𝕄) (k : PUnit → KProg F α) :
    iprop(aP c s q (AC X c) ∗ gP c c s f ∗ ((aP c s q (AC X c) ∗ gP c c s (GC X)) -∗ WPc c (k ⟨⟩) Q))
      ⊢ WPc c (agOwn c s >>= k) Q := by
  unfold agOwn ownAg WPc aP gP
  simp only [Prog.lift, Prog.bind_op, Prog.bind_ret]
  iintro ⟨Hb, Hr, Hk⟩
  iapply (wp_load 𝒱₀ (c : Thread nD τ) none Set.univ (m := aM) (r := (segR s).toLoadRect) (S := segSet s) (set_x cc0_scratch2 (segR s))) $$ Hb; iintro Hb
  iapply (wp_load 𝒱₀ (c : Thread nD τ) none Set.univ (m := gM) (r := (slotR c s).toLoadRect) (S := slotSet c s) (set_x cc0_scratch3 (slotR c s))) $$ Hr; iintro Hr
  iapply (wp_store 𝒱₀ (c : Thread nD τ) none Set.univ (m := gM) (r := slotR c s) (Mk := Finset.univ) (S := slotSet c s) (View.set_slice_whole _ _).le) $$ Hr; iintro Hr
  ihave Hr' := (Entails.of_eq (pointsTo_congr (store_ag X c s f))) $$ Hr
  iapply Hk
  isplitl [Hb] <;> iassumption

/-! ## Buffers and their slots -/

/-- Different slots are disjoint, the segment named first. -/
theorem slots_disjoint : ∀ p ∈ (Finset.univ : Finset (Fin 2 × Fin 32)), ∀ p' ∈ (Finset.univ : Finset (Fin 2 × Fin 32)), p ≠ p' →
    Disjoint (slotSet p.2 p.1) (slotSet p'.2 p'.1) := fun p _ p' _ h =>
  slotSet_disjoint (p.2, p.1) (p'.2, p'.1) fun e => h (Prod.ext (congrArg Prod.snd e) (congrArg Prod.fst e))
/-- The slots make up the buffer, the segment named first. -/
theorem slots_union : (Finset.univ : Finset (Fin 2 × Fin 32)).biUnion (fun p => slotSet p.2 p.1) = Finset.univ :=
  Finset.eq_univ_iff_forall.mpr fun i => Finset.mem_biUnion.mpr ⟨(i 1, i 0), Finset.mem_univ _, mem_slotSet.mpr ⟨rfl, rfl⟩⟩

/-- All of `bM` is its slots, segment by segment. -/
theorem whole_b (c : Dev nD) (f : C4 F) : ((((c : Thread nD τ).loc cc0_scratch0) ↦{fullShare} f) : sProp 𝕄)
    = iprop((bigSep Finset.univ fun j => bP c j 0 f) ∗ bigSep Finset.univ fun j => bP c j 1 f) := by
  refine (congrArg (fun S => ((((c : Thread nD τ).loc cc0_scratch0) ↦[S]{fullShare} f) : sProp 𝕄)) slots_union.symm).trans ?_
  rw [pointsTo_biUnion _ _ slots_disjoint, bigSep_univ_prod, bigSep_fin_two]; rfl
/-- All of `rM` is its slots, segment by segment. -/
theorem whole_r (c : Dev nD) (f : C4 F) : ((((c : Thread nD τ).loc cc0_scratch1) ↦{fullShare} f) : sProp 𝕄)
    = iprop((bigSep Finset.univ fun j => rP c j 0 f) ∗ bigSep Finset.univ fun j => rP c j 1 f) := by
  refine (congrArg (fun S => ((((c : Thread nD τ).loc cc0_scratch1) ↦[S]{fullShare} f) : sProp 𝕄)) slots_union.symm).trans ?_
  rw [pointsTo_biUnion _ _ slots_disjoint, bigSep_univ_prod, bigSep_fin_two]; rfl
/-- All of `gM` is its slots, segment by segment. -/
theorem whole_g (c : Dev nD) (f : C4 F) : ((((c : Thread nD τ).loc cc0_scratch3) ↦{fullShare} f) : sProp 𝕄)
    = iprop((bigSep Finset.univ fun j => gP c j 0 f) ∗ bigSep Finset.univ fun j => gP c j 1 f) := by
  refine (congrArg (fun S => ((((c : Thread nD τ).loc cc0_scratch3) ↦[S]{fullShare} f) : sProp 𝕄)) slots_union.symm).trans ?_
  rw [pointsTo_biUnion _ _ slots_disjoint, bigSep_univ_prod, bigSep_fin_two]; rfl
/-- All of `aM` is its two segments. -/
theorem whole_a (c : Dev nD) (f : C3 F) : ((((c : Thread nD τ).loc cc0_scratch2) ↦{fullShare} f) : sProp 𝕄)
    = iprop(aP c 0 fullShare f ∗ aP c 1 fullShare f) := by
  refine (congrArg (fun S => ((((c : Thread nD τ).loc cc0_scratch2) ↦[S]{fullShare} f) : sProp 𝕄)) segSet_union.symm).trans ?_
  rw [pointsTo_biUnion _ _ (fun s _ s' _ h => segSet_disjoint s s' h), bigSep_fin_two]; rfl
/-- The slots of one segment. -/
theorem col_r (c : Dev nD) (s : Fin 2) (f : C4 F) : ((((c : Thread nD τ).loc cc0_scratch1) ↦[colSet s]{fullShare} f) : sProp 𝕄)
    = bigSep Finset.univ fun j => rP c j s f := by
  refine (congrArg (fun S => ((((c : Thread nD τ).loc cc0_scratch1) ↦[S]{fullShare} f) : sProp 𝕄)) (slotSet_col s).symm).trans ?_
  rw [pointsTo_biUnion _ _ (fun j _ j' _ h => slotSet_disjoint (j, s) (j', s) fun e => h (congrArg Prod.fst e))]; rfl
/-- A segment in the shares its copies read. -/
theorem leaves_a (c : Dev nD) (s : Fin 2) (f : C3 F) : (aP c s fullShare f : sProp 𝕄) = bigSep Finset.univ fun j => aP c s (shr j) f :=
  ShareLeaves.pointsTo_leaves _ _ 5 fullShare

end Cert.AllReduce

end
-- ==== Proof.Body.lean ====
/-
# The body of one device

From the launch to the last wait, at any device `c`: what it starts from, what it leaves.
-/
module

public import proofs.«01_k».proof.Proof.Ops

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x512.Idx → Elt F .bf16) (K : Dev nD × CI → ℕ)

/-! ## Families side by side -/

omit [FloatOps F] in
/-- Two families held side by side are one family of pairs. -/
theorem zip {I : Type} [DecidableEq I] (S : Finset I) (Φ Ψ : I → sProp 𝕄) : iprop(bigSep S Φ ∗ bigSep S Ψ) ⊢ bigSep S fun i => iprop(Φ i ∗ Ψ i) :=
  Entails.of_eq (bigSep_sep' S Φ Ψ).symm
omit [FloatOps F] in
/-- A family of pairs is two families side by side. -/
theorem unzip {I : Type} [DecidableEq I] (S : Finset I) (Φ Ψ : I → sProp 𝕄) : (bigSep S fun i => iprop(Φ i ∗ Ψ i)) ⊢ iprop(bigSep S Φ ∗ bigSep S Ψ) :=
  Entails.of_eq (bigSep_sep' S Φ Ψ)
omit [FloatOps F] in
/-- A family with known contents is a family with some contents. -/
theorem any {I J : Type} [DecidableEq I] (S : Finset I) (Φ : I → J → sProp 𝕄) (f : J) : (bigSep S fun i => Φ i f) ⊢ bigSep S fun i => iprop(∃ f, Φ i f) :=
  bigSep_mono fun i _ => by
    show Φ i f ⊢ iprop(∃ f, Φ i f)
    iintro H; iexists f; iexact H
omit [FloatOps F] in
/-- Device `c` and the others, side by side, make up all the devices. -/
theorem join (c : Dev nD) (Φ : Dev nD → sProp 𝕄) : iprop(Φ c ∗ bigSep (Finset.univ : Finset (Fin 31)) fun r => Φ (tgt c r)) ⊢ bigSep Finset.univ Φ :=
  Entails.of_eq (bigSep_others c Φ).symm

/-! ## One segment from its arrivals to its copies -/

/-- What a segment leaves once it is reduced and sent on. -/
def halfPost (c : Dev nD) (s : Fin 2) : sProp 𝕄 :=
  iprop((bigSep Finset.univ fun r : Fin 31 => atPos ER (dcell c 1 (tgt c r) s) 1 ∅ 0) ∗ (bigSep Finset.univ fun j => rP c j s (RC X c))
    ∗ aP c s (shr c) (AC X c) ∗ gP c c s (GC X) ∗ bigSep Finset.univ fun r : Fin 31 => cred (tallyAt (dcell c 2 (tgt c r) s) () N))

/-- A segment's chunks waited for, reduced, sent on, and stored in the device's own slot. -/
theorem half (c : Dev nD) (s : Fin 2) (O : CellTallies nD τ sig Unit) (hO : Above 2 (O + ∑ r, TG c s r)) {α : Type} (Q : α → sProp 𝕄) (k : PUnit → KProg F α) :
    iprop(Rec X K
        ∗ (bigSep Finset.univ fun r => iprop(cred (tallyAt (dcell c 1 (tgt c r) s) () N) ∗ atPos ER (dcell c 1 (tgt c r) s) 0 ∅ 0))
        ∗ rP c c s (RC X c) ∗ (∃ f, aP c s fullShare f)
        ∗ (bigSep Finset.univ fun r => iprop((∃ f, gP (tgt c r) c s f) ∗ dutyTok ER (dcell c 2 (tgt c r) s) 0 (tgt c r) ∗ dutyTok ER (dcell (tgt c r) 3 c s) 0 c))
        ∗ (∃ f, gP c c s f)
        ∗ owing c (O + ∑ r, TG c s r)
        ∗ ((halfPost X c s ∗ owing c O) -∗ WPc c (k ⟨⟩) Q))
      ⊢ WPc c (chain 31 (rsWait c s) >>= fun _ => reduce s >>= fun _ => chain 31 (agSend c s) >>= fun _ => agOwn c s >>= k) Q := by
  iintro ⟨#HR, Hw, Hr, ⟨%fa, Ha⟩, Hg, ⟨%fg, Hgo⟩, HO, Hk⟩
  iapply (rs_waits X K c s _ hO Q)
  isplitr; · iexact HR
  isplitl [Hw]; · iexact Hw
  isplitl [HO]; · iexact HO
  iintro ⟨Hw, HO⟩
  ihave Hw' := (unzip _ _ _) $$ Hw
  icases Hw' with ⟨Hat, Hrs⟩
  ihave Hrr := (join c fun j => rP c j s (RC X c)) $$ [Hr Hrs]
  · isplitl [Hr]; · iexact Hr
    iexact Hrs
  ihave Hcol := (Entails.of_eq (col_r c s (RC X c)).symm) $$ Hrr
  iapply (reduce_step X c s fa Q)
  isplitl [Hcol]; · iexact Hcol
  isplitl [Ha]; · iexact Ha
  iintro ⟨Hcol, Ha⟩
  ihave Hl := (Entails.of_eq ((leaves_a c s (AC X c)).trans (bigSep_others c _))) $$ Ha
  icases Hl with ⟨Hao, Has⟩
  iapply (ag_sends X K c s O Q)
  isplitr; · iexact HR
  isplitl [Has Hg]
  · iapply (zip Finset.univ (fun r : Fin 31 => aP c s (shr (tgt c r)) (AC X c)) _)
    isplitl [Has]; · iexact Has
    iexact Hg
  isplitl [HO]; · iexact HO
  iintro ⟨HC, HO⟩
  iapply (ag_own X c s (shr c) fg Q k)
  isplitl [Hao]; · iexact Hao
  isplitl [Hgo]; · iexact Hgo
  iintro ⟨Hao, Hgo⟩
  iapply Hk
  isplitr [HO]
  · unfold halfPost
    isplitl [Hat]; · iexact Hat
    isplitl [Hcol]; · iapply (Entails.of_eq (col_r c s (RC X c))); iexact Hcol
    isplitl [Hao]; · iexact Hao
    isplitl [Hgo]; · iexact Hgo
    iexact HC
  iexact HO

/-! ## What is handed over at the barrier -/

/-- A device's two landing buffers: its own slots, and what it hands to the others. -/
theorem give (c : Dev nD) (f g : C4 F) :
    iprop((((c : Thread nD τ).loc cc0_scratch1) ↦{fullShare} f) ∗ (((c : Thread nD τ).loc cc0_scratch3) ↦{fullShare} g))
      ⊢ iprop((rP c c 0 f ∗ rP c c 1 f ∗ gP c c 0 g ∗ gP c c 1 g) ∗ bigSep (Finset.univ : Finset (Fin 31)) fun r => (barPay (tgt c r) c : sProp 𝕄)) := by
  rw [whole_r, whole_g, bigSep_others c, bigSep_others c, bigSep_others c, bigSep_others c]
  unfold barPay
  iintro ⟨⟨⟨H0, H0s⟩, H1, H1s⟩, ⟨H2, H2s⟩, H3, H3s⟩
  isplitl [H0 H1 H2 H3]
  · isplitl [H0]; · iexact H0
    isplitl [H1]; · iexact H1
    isplitl [H2]; · iexact H2
    iexact H3
  rw [bigSep_sep', bigSep_sep', bigSep_sep']
  isplitl [H0s]; · iapply (any Finset.univ (fun r : Fin 31 => rP c (tgt c r) 0) f); iexact H0s
  isplitl [H1s]; · iapply (any Finset.univ (fun r : Fin 31 => rP c (tgt c r) 1) f); iexact H1s
  isplitl [H2s]; · iapply (any Finset.univ (fun r : Fin 31 => gP c (tgt c r) 0) g); iexact H2s
  iapply (any Finset.univ (fun r : Fin 31 => gP c (tgt c r) 1) g); iexact H3s

/-! ## The start and the end -/

/-- For one segment: the tokens of the duties the device pays, and its credits for what arrives. -/
def segStart (c : Dev nD) (s : Fin 2) : sProp 𝕄 :=
  iprop((bigSep Finset.univ fun r : Fin 31 => iprop(dutyTok ER (dcell c 0 (tgt c r) s) 0 (tgt c r) ∗ dutyTok ER (dcell (tgt c r) 1 c s) 0 c))
    ∗ (bigSep Finset.univ fun r : Fin 31 => iprop(dutyTok ER (dcell c 2 (tgt c r) s) 0 (tgt c r) ∗ dutyTok ER (dcell (tgt c r) 3 c s) 0 c))
    ∗ (bigSep Finset.univ fun r : Fin 31 => cred (tallyAt (dcell c 1 (tgt c r) s) () N))
    ∗ (bigSep Finset.univ fun r : Fin 31 => cred (tallyAt (dcell c 3 (tgt c r) s) () N)))

/-- The positions on one array's semaphores of one segment: at round `R` where others are concerned. -/
def posn (c : Dev nD) (R : ℕ) (k : Fin 4) (s : Fin 2) : sProp 𝕄 :=
  iprop(atPos ER (dcell c k c s) 0 ∅ 0 ∗ bigSep Finset.univ fun r : Fin 31 => atPos ER (dcell c k (tgt c r) s) R ∅ 0)

/-- The positions on all of a device's semaphores, at round `R` where others are concerned. -/
def allPos (c : Dev nD) (R : ℕ) : sProp 𝕄 :=
  iprop(atPos ER (bcell c) R ∅ 0
    ∗ (posn c R 0 0 ∗ posn c R 0 1) ∗ (posn c R 1 0 ∗ posn c R 1 1) ∗ (posn c R 2 0 ∗ posn c R 2 1) ∗ (posn c R 3 0 ∗ posn c R 3 1))

/-- What the device starts from, beside its buffers and the records. -/
def lin (c : Dev nD) : sProp 𝕄 :=
  iprop(allPos c 0 ∗ (bigSep Finset.univ fun r : Fin 31 => dutyTok ER (bcell (tgt c r)) 0 c) ∗ cred (tallyAt (bcell c) () 31)
    ∗ segStart c 0 ∗ segStart c 1)

/-- The device's buffers: the scratch buffers at some contents. -/
def scratch (c : Dev nD) : sProp 𝕄 :=
  iprop((∃ f : C4 F, ((c : Thread nD τ).loc cc0_scratch0) ↦{fullShare} f) ∗ (∃ f : C4 F, ((c : Thread nD τ).loc cc0_scratch1) ↦{fullShare} f)
    ∗ (∃ f : C3 F, ((c : Thread nD τ).loc cc0_scratch2) ↦{fullShare} f) ∗ (∃ f : C4 F, ((c : Thread nD τ).loc cc0_scratch3) ↦{fullShare} f))

/-- The device's result, the same on every device. -/
def OUT : S1024x512.Idx → Elt F .f32 := k0_pay8 (GC X)

set_option maxHeartbeats 1600000 in
/-- The whole body of one device, run from its start: the positions all past their round, nothing owed, the argument as it was and the result in place. -/
theorem sound (c : Dev nD) (g : S1024x512.Idx → Elt F .f32) {α : Type} (Q : α → sProp 𝕄) (k : PUnit → KProg F α) :
    iprop(Rec X K ∗ lin c ∗ owing c (O₀ c)
        ∗ (((c : Thread nD τ).loc cc0_stg0_0) ↦{fullShare} X c) ∗ (((c : Thread nD τ).loc cc0_stg1_0) ↦{fullShare} g) ∗ scratch c
        ∗ ((allPos c 1 ∗ owing c 0
            ∗ (((c : Thread nD τ).loc cc0_stg0_0) ↦{fullShare} X c) ∗ (((c : Thread nD τ).loc cc0_stg1_0) ↦{fullShare} OUT X) ∗ scratch c) -∗ WPc c (k ⟨⟩) Q))
      ⊢ WPc c (canon c >>= k) Q := by
  unfold canon
  simp only [bind_assoc]
  unfold lin allPos posn segStart scratch
  iintro ⟨#HR, ⟨⟨Hat, ⟨⟨P00, P00s⟩, P01, P01s⟩, ⟨⟨P10, P10s⟩, P11, P11s⟩, ⟨⟨P20, P20s⟩, P21, P21s⟩, ⟨P30, P30s⟩, P31, P31s⟩, Htb, Hcb,
    ⟨T0, U0, C0, D0⟩, T1, U1, C1, D1⟩, HO, Hx, Ho, ⟨⟨%fb, Hb⟩, ⟨%fr, Hr⟩, ⟨%fa, Ha⟩, %fg, Hg⟩, Hk⟩
  -- the signals
  ihave H := (give c fr fg) $$ [Hr Hg]
  · isplitl [Hr] <;> iassumption
  icases H with ⟨⟨R0, R1, G0, G1⟩, Hgive⟩
  iapply (signals X K c Q)
  isplitr; · iexact HR
  isplitl [Htb Hgive]
  · iapply (zip Finset.univ (fun r : Fin 31 => dutyTok ER (bcell (tgt c r)) 0 c) fun r : Fin 31 => barPay (tgt c r) c)
    isplitl [Htb] <;> iassumption
  isplitl [HO]; · iexact HO
  iintro HO
  -- `x` cut into chunks
  iapply (cut_step c (X c) fb Q)
  isplitl [Hx]; · iexact Hx
  isplitl [Hb]; · iexact Hb
  iintro ⟨Hx, Hb⟩
  -- the barrier
  iapply (bar_wait X K c Q)
  isplitr; · iexact HR
  isplitl [Hcb]; · iexact Hcb
  isplitl [Hat]; · iexact Hat
  isplitl [HO]; · iexact HO
  iintro ⟨Hat, HO, Hgot⟩
  ihave Hgot' := (show (bigSep (Finset.univ : Finset (Fin 31)) fun r => (barPay c (tgt c r) : sProp 𝕄)) ⊢
      iprop((bigSep Finset.univ fun r => iprop(∃ f, rP (tgt c r) c 0 f)) ∗ (bigSep Finset.univ fun r => iprop(∃ f, rP (tgt c r) c 1 f))
        ∗ (bigSep Finset.univ fun r => iprop(∃ f, gP (tgt c r) c 0 f)) ∗ bigSep Finset.univ fun r => iprop(∃ f, gP (tgt c r) c 1 f)) from by
    unfold barPay; rw [bigSep_sep', bigSep_sep', bigSep_sep']) $$ Hgot
  icases Hgot' with ⟨V0, V1, W0, W1⟩
  ihave Hb' := (show ((((c : Thread nD τ).loc cc0_scratch0) ↦{fullShare} (k0_pay1 (X c) : C4 F)) : sProp 𝕄) ⊢ _ from Entails.of_eq (whole_b c (BX X c))) $$ Hb
  icases Hb' with ⟨B0, B1⟩
  ihave B0' := (Entails.of_eq (bigSep_others c fun j => bP c j 0 (BX X c))) $$ B0
  icases B0' with ⟨B0, B0s⟩
  ihave B1' := (Entails.of_eq (bigSep_others c fun j => bP c j 1 (BX X c))) $$ B1
  icases B1' with ⟨B1, B1s⟩
  -- the scattering copies
  iapply (rs_sends X K c 0 (O₂ c) Q)
  isplitr; · iexact HR
  isplitl [B0s V0 T0]
  · iapply (zip Finset.univ (fun r : Fin 31 => bP c (tgt c r) 0 (BX X c)) _)
    isplitl [B0s]; · iexact B0s
    iapply (zip Finset.univ (fun r : Fin 31 => iprop(∃ f, rP (tgt c r) c 0 f)) _)
    isplitl [V0]; · iexact V0
    iexact T0
  isplitl [HO]; · iexact HO
  iintro ⟨E0, HO⟩
  iapply (rs_sends X K c 1 (O₃ c) Q)
  isplitr; · iexact HR
  isplitl [B1s V1 T1]
  · iapply (zip Finset.univ (fun r : Fin 31 => bP c (tgt c r) 1 (BX X c)) _)
    isplitl [B1s]; · iexact B1s
    iapply (zip Finset.univ (fun r : Fin 31 => iprop(∃ f, rP (tgt c r) c 1 f)) _)
    isplitl [V1]; · iexact V1
    iexact T1
  isplitl [HO]; · iexact HO
  iintro ⟨E1, HO⟩
  -- the device's own chunks
  iapply (rs_own X c 0 fr Q)
  isplitl [B0]; · iexact B0
  isplitl [R0]; · iexact R0
  iintro ⟨B0, R0⟩
  iapply (rs_own X c 1 fr Q)
  isplitl [B1]; · iexact B1
  isplitl [R1]; · iexact R1
  iintro ⟨B1, R1⟩
  ihave Ha' := (Entails.of_eq (whole_a c fa)) $$ Ha
  icases Ha' with ⟨A0, A1⟩
  -- the first segment
  iapply (half X K c 0 (O₄ c) (above_O₃ c) Q)
  isplitr; · iexact HR
  isplitl [C0 P10s]
  · iapply (zip Finset.univ (fun r : Fin 31 => cred (tallyAt (dcell c 1 (tgt c r) 0) () N)) _)
    isplitl [C0] <;> iassumption
  isplitl [R0]; · iexact R0
  isplitl [A0]; · iexists fa; iexact A0
  isplitl [W0 U0]
  · iapply (zip Finset.univ (fun r : Fin 31 => iprop(∃ f, gP (tgt c r) c 0 f)) _)
    isplitl [W0] <;> iassumption
  isplitl [G0]; · iexists fg; iexact G0
  isplitl [HO]; · iexact HO
  unfold halfPost
  iintro ⟨⟨P10s, R0, A0, G0, F0⟩, HO⟩
  -- the second
  iapply (half X K c 1 0 (by rw [zero_add]; exact above_O₄ c) Q)
  isplitr; · iexact HR
  isplitl [C1 P11s]
  · iapply (zip Finset.univ (fun r : Fin 31 => cred (tallyAt (dcell c 1 (tgt c r) 1) () N)) _)
    isplitl [C1] <;> iassumption
  isplitl [R1]; · iexact R1
  isplitl [A1]; · iexists fa; iexact A1
  isplitl [W1 U1]
  · iapply (zip Finset.univ (fun r : Fin 31 => iprop(∃ f, gP (tgt c r) c 1 f)) _)
    isplitl [W1] <;> iassumption
  isplitl [G1]; · iexists fg; iexact G1
  isplitl [HO]; · rw [zero_add]; iexact HO
  unfold halfPost
  iintro ⟨⟨P11s, R1, A1, G1, F1⟩, HO⟩
  -- the gathered chunks
  iapply (ag_waits X K c 0 Q)
  isplitr; · iexact HR
  isplitl [D0 P30s]
  · iapply (zip Finset.univ (fun r : Fin 31 => cred (tallyAt (dcell c 3 (tgt c r) 0) () N)) _)
    isplitl [D0] <;> iassumption
  isplitl [HO]; · iexact HO
  iintro ⟨H, HO⟩
  ihave H' := (unzip _ _ _) $$ H
  icases H' with ⟨P30s, G0s⟩
  iapply (ag_waits X K c 1 Q)
  isplitr; · iexact HR
  isplitl [D1 P31s]
  · iapply (zip Finset.univ (fun r : Fin 31 => cred (tallyAt (dcell c 3 (tgt c r) 1) () N)) _)
    isplitl [D1] <;> iassumption
  isplitl [HO]; · iexact HO
  iintro ⟨H, HO⟩
  ihave H' := (unzip _ _ _) $$ H
  icases H' with ⟨P31s, G1s⟩
  -- the output
  ihave Hg := (Entails.of_eq (whole_g c (GC X)).symm) $$ [G0 G0s G1 G1s]
  · isplitl [G0 G0s]
    · iapply (join c fun j => gP c j 0 (GC X)); isplitl [G0] <;> iassumption
    iapply (join c fun j => gP c j 1 (GC X)); isplitl [G1] <;> iassumption
  iapply (out_step c (GC X) g Q)
  isplitl [Hg]; · iexact Hg
  isplitl [Ho]; · iexact Ho
  iintro ⟨Hg, Ho⟩
  -- the sources back
  iapply (backs X K c 0 Q)
  isplitr; · iexact HR
  isplitl [E0 P00s F0 P20s]
  · iapply (zip Finset.univ (fun r : Fin 31 => iprop(cred (tallyAt (dcell c 0 (tgt c r) 0) () N) ∗ atPos ER (dcell c 0 (tgt c r) 0) 0 ∅ 0)) _)
    isplitl [E0 P00s]
    · iapply (zip Finset.univ (fun r : Fin 31 => cred (tallyAt (dcell c 0 (tgt c r) 0) () N)) _)
      isplitl [E0] <;> iassumption
    iapply (zip Finset.univ (fun r : Fin 31 => cred (tallyAt (dcell c 2 (tgt c r) 0) () N)) _)
    isplitl [F0] <;> iassumption
  isplitl [HO]; · iexact HO
  iintro ⟨H, HO⟩
  ihave H' := (unzip _ _ _) $$ H
  icases H' with ⟨H, H'⟩
  ihave H1 := (unzip _ _ _) $$ H
  icases H1 with ⟨P00s, B0s⟩
  ihave H2 := (unzip _ _ _) $$ H'
  icases H2 with ⟨P20s, A0s⟩
  iapply (backs X K c 1 Q k)
  isplitr; · iexact HR
  isplitl [E1 P01s F1 P21s]
  · iapply (zip Finset.univ (fun r : Fin 31 => iprop(cred (tallyAt (dcell c 0 (tgt c r) 1) () N) ∗ atPos ER (dcell c 0 (tgt c r) 1) 0 ∅ 0)) _)
    isplitl [E1 P01s]
    · iapply (zip Finset.univ (fun r : Fin 31 => cred (tallyAt (dcell c 0 (tgt c r) 1) () N)) _)
      isplitl [E1] <;> iassumption
    iapply (zip Finset.univ (fun r : Fin 31 => cred (tallyAt (dcell c 2 (tgt c r) 1) () N)) _)
    isplitl [F1] <;> iassumption
  isplitl [HO]; · iexact HO
  iintro ⟨H, HO⟩
  ihave H' := (unzip _ _ _) $$ H
  icases H' with ⟨H, H'⟩
  ihave H1 := (unzip _ _ _) $$ H
  icases H1 with ⟨P01s, B1s⟩
  ihave H2 := (unzip _ _ _) $$ H'
  icases H2 with ⟨P21s, A1s⟩
  iapply Hk
  isplitl [Hat P00 P00s P01 P01s P10 P10s P11 P11s P20 P20s P21 P21s P30 P30s P31 P31s]
  · isplitl [Hat]; · iexact Hat
    isplitl [P00 P00s P01 P01s]
    · isplitl [P00 P00s]
      · isplitl [P00] <;> iassumption
      isplitl [P01] <;> iassumption
    isplitl [P10 P10s P11 P11s]
    · isplitl [P10 P10s]
      · isplitl [P10] <;> iassumption
      isplitl [P11] <;> iassumption
    isplitl [P20 P20s P21 P21s]
    · isplitl [P20 P20s]
      · isplitl [P20] <;> iassumption
      isplitl [P21] <;> iassumption
    isplitl [P30 P30s]
    · isplitl [P30] <;> iassumption
    isplitl [P31] <;> iassumption
  isplitl [HO]; · iexact HO
  isplitl [Hx]; · iexact Hx
  isplitl [Ho]; · iexact Ho
  isplitl [B0 B0s B1 B1s]
  · iexists (BX X c)
    iapply (Entails.of_eq (whole_b c (BX X c)).symm)
    isplitl [B0 B0s]
    · iapply (join c fun j => bP c j 0 (BX X c)); isplitl [B0] <;> iassumption
    iapply (join c fun j => bP c j 1 (BX X c)); isplitl [B1] <;> iassumption
  isplitl [R0 R1]
  · iexists (RC X c)
    iapply (Entails.of_eq (whole_r c (RC X c)).symm)
    isplitl [R0] <;> iassumption
  isplitl [A0 A0s A1 A1s]
  · iexists (AC X c)
    iapply (Entails.of_eq (whole_a c (AC X c)).symm)
    isplitl [A0 A0s]
    · iapply (Entails.of_eq (leaves_a c 0 (AC X c)).symm)
      iapply (join c fun j => aP c 0 (shr j) (AC X c)); isplitl [A0] <;> iassumption
    iapply (Entails.of_eq (leaves_a c 1 (AC X c)).symm)
    iapply (join c fun j => aP c 1 (shr j) (AC X c)); isplitl [A1] <;> iassumption
  iexists (GC X); iexact Hg

/-! ## The cells closed -/

/-- One row of copy semaphores, past its round, is closed with its counters at zero. -/
theorem close_dma (c : Dev nD) (k : Fin 4) (s : Fin 2) :
    iprop(Rec X K ∗ posn c 1 k s) ⊢ |={Set.univ}=> (bigSep Finset.univ fun j : Fin 32 => semVal (dcell c k j s) 0 : sProp 𝕄) := by
  have hs : ∀ r ∈ (Finset.univ : Finset (Fin 31)), iprop(Rec X K ∗ atPos ER (dcell c k (tgt c r) s) 1 ∅ 0) ⊢ |={Set.univ}=> (semVal (dcell c k (tgt c r) s) 0 : sProp 𝕄) := fun r _ => by
    iintro ⟨#HR, H⟩
    iapply (Rounds.cell_close ER (Rd X) (Set.mem_univ (K (c, .inr (k, s, tgt c r)))) (fun h => h) (R := 1) (duties_later X (dcell c k (tgt c r) s)))
    isplitr; · iapply (Rec_inv X K c k s (tgt c r)); iexact HR
    iexact H
  rw [bigSep_others c]
  unfold posn
  iintro ⟨#HR, Ho, Hs⟩
  imod (Rounds.cell_close ER (Rd X) (Set.mem_univ (K (c, .inr (k, s, c)))) (fun h => h) (R := 0) (duties_own_all X c k s)) $$ [Ho] with Hz
  · isplitr; · iapply (Rec_inv X K c k s c); iexact HR
    iexact Ho
  imod ((sep_mono_left (BI.bigSep_of_persistent Finset.univ (Rec X K))).trans ((Entails.of_eq (bigSep_sep' _ _ _).symm).trans ((bigSep_mono hs).trans (bigSep_fupd _ _)))) $$ [Hs] with Hzs
  · isplitr; · iexact HR
    iexact Hs
  imodintro
  isplitl [Hz] <;> iassumption

/-- The barrier, past its round, is closed with its counter at zero. -/
theorem close_bar (c : Dev nD) : iprop(Rec X K ∗ atPos ER (bcell c) 1 ∅ 0) ⊢ |={Set.univ}=> (semVal (bcell c) 0 : sProp 𝕄) := by
  iintro ⟨#HR, H⟩
  iapply (Rounds.cell_close ER (Rd X) (Set.mem_univ (K (c, .inl ()))) (fun h => h) (R := 1) (duties_later X (bcell c)))
  isplitr; · iapply (Rec_inv_bar X K c); iexact HR
  iexact H

omit [FloatOps F] in
/-- A family over the four arrays and two segments, written out. -/
theorem over_ks (Φ : Fin 4 → Fin 2 → sProp 𝕄) : (bigSep Finset.univ fun k : Fin 4 => bigSep Finset.univ fun s : Fin 2 => Φ k s)
    = iprop((Φ 0 0 ∗ Φ 0 1) ∗ (Φ 1 0 ∗ Φ 1 1) ∗ (Φ 2 0 ∗ Φ 2 1) ∗ (Φ 3 0 ∗ Φ 3 1)) := by
  rw [bigSep_univ_eq_bigSepL [0, 1, 2, 3] (by decide) (by decide), bigSepL_cons_cons, bigSepL_cons_cons, bigSepL_cons_cons, bigSepL_singleton,
    bigSep_fin_two, bigSep_fin_two, bigSep_fin_two, bigSep_fin_two]
  rfl

/-- The counters of a device's semaphores at zero. -/
def zeros (c : Dev nD) : sProp 𝕄 :=
  iprop(semVal (bcell c) 0 ∗ bigSep Finset.univ fun k : Fin 4 => bigSep Finset.univ fun s : Fin 2 => bigSep Finset.univ fun j : Fin 32 => semVal (dcell c k j s) 0)

/-- All of a device's semaphores are closed with their counters at zero. -/
theorem close (c : Dev nD) : iprop(Rec X K ∗ allPos c 1) ⊢ |={Set.univ}=> (zeros c : sProp 𝕄) := by
  have hk : ∀ k ∈ (Finset.univ : Finset (Fin 4)), iprop(Rec X K ∗ bigSep Finset.univ fun s : Fin 2 => posn c 1 k s)
      ⊢ |={Set.univ}=> (bigSep Finset.univ fun s : Fin 2 => bigSep Finset.univ fun j : Fin 32 => semVal (dcell c k j s) 0 : sProp 𝕄) := fun k _ =>
    (sep_mono_left (BI.bigSep_of_persistent Finset.univ (Rec X K))).trans ((Entails.of_eq (bigSep_sep' _ _ _).symm).trans
      ((bigSep_mono fun s _ => close_dma X K c k s).trans (bigSep_fupd _ _)))
  have hall : allPos c 1 = iprop(atPos ER (bcell c) 1 ∅ 0 ∗ bigSep Finset.univ fun k : Fin 4 => bigSep Finset.univ fun s : Fin 2 => (posn c 1 k s : sProp 𝕄)) := by
    rw [over_ks]; rfl
  rw [hall]
  unfold zeros
  iintro ⟨#HR, Hb, Hs⟩
  imod (close_bar X K c) $$ [Hb] with Hz
  · isplitr; · iexact HR
    iexact Hb
  imod ((sep_mono_left (BI.bigSep_of_persistent Finset.univ (Rec X K))).trans ((Entails.of_eq (bigSep_sep' _ _ _).symm).trans ((bigSep_mono hk).trans (bigSep_fupd _ _)))) $$ [Hs] with Hzs
  · isplitr; · iexact HR
    iexact Hs
  imodintro
  isplitl [Hz] <;> iassumption

end Cert.AllReduce

end
-- ==== Proof.Run.lean ====
/-
# The run

The launch deals every device its positions, the tokens of the duties it pays and its credits; from there the body of
every device runs to its end, and so does the program.
-/
module

public import proofs.«01_k».proof.Proof.Body
public import Idealize.ShloMosaic.Lib.Pipeline.Launch
public import Idealize.ShloMosaic.Lib.Pipeline.Kit

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens -/

/-- A device's semaphores are distinct. -/
theorem csem_injective : Function.Injective csem := by
  rintro (⟨⟩ | ⟨k, s, j⟩) (⟨⟩ | ⟨k', s', j'⟩) h
  · rfl
  · cases h
  · cases h
  · have h' : dsem k j s = dsem k' j' s' := SemLoc.dma.inj h
    obtain ⟨rfl, rfl, rfl⟩ := dsem_injective h'
    rfl
/-- The semaphores of all devices are distinct. -/
theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]
/-- All the semaphores of the protocol. -/
def ringCells : Finset (GSem nD τ sig) := Finset.univ.map ⟨kcell, kcell_injective⟩

/-- The duty named `j` of device `o`'s barrier, and of its semaphore `(k, j, s)`. -/
abbrev Tok : Type := (Dev nD × Dev nD) × (Unit ⊕ (Fin 4 × Fin 2))
/-- The semaphore that a token is for. -/
def tokSem (j : Dev nD) : Unit ⊕ (Fin 4 × Fin 2) → SemLoc sig
  | .inl _ => .reg barS
  | .inr p => .dma (dsem p.1 j p.2)
/-- The token as the protocol names it: a semaphore, its round 0, and a duty. -/
def tokOf (x : Tok) : GSem nD τ sig × ℕ × Dev nD := (((x.1.1 : Thread nD τ), tokSem x.1.2 x.2), 0, x.1.2)
/-- Different tokens have different names. -/
theorem tokOf_injective : Function.Injective tokOf := by
  rintro ⟨⟨o, j⟩, i⟩ ⟨⟨o', j'⟩, i'⟩ h
  have h1 : o = o' := congrArg (fun x : GSem nD τ sig × ℕ × Dev nD => x.1.1.1) h
  have h2 : j = j' := congrArg (fun x : GSem nD τ sig × ℕ × Dev nD => x.2.2) h
  subst h1 h2
  have h3 : tokSem j i = tokSem j i' := congrArg (fun x : GSem nD τ sig × ℕ × Dev nD => x.1.2) h
  have h4 : i = i' := by
    rcases i with ⟨⟩ | ⟨k, s⟩ <;> rcases i' with ⟨⟩ | ⟨k', s'⟩
    · rfl
    · cases h3
    · cases h3
    · obtain ⟨rfl, -, rfl⟩ := dsem_injective (SemLoc.dma.inj h3); rfl
  rw [h4]
/-- All the tokens. -/
def ringToks : Finset (GSem nD τ sig × ℕ × Dev nD) := Finset.univ.map ⟨tokOf, tokOf_injective⟩

/-- The ghost state at launch. -/
def u₀ : UU := (initOf (Pipeline.cells cfgs cellOf_inj) (Pipeline.launchToks cfgs cellOf_inj), initOf ringCells ringToks)

/-- The tokens of device `o`'s duties named `j`: those that `j` pays, -/
def tokIn (o j : Dev nD) : sProp 𝕄 :=
  iprop(dutyTok ER (bcell o) 0 j ∗ (dutyTok ER (dcell o 1 j 0) 0 j ∗ dutyTok ER (dcell o 1 j 1) 0 j)
    ∗ dutyTok ER (dcell o 3 j 0) 0 j ∗ dutyTok ER (dcell o 3 j 1) 0 j)
/-- and those that `o` pays itself. -/
def tokOwn (o j : Dev nD) : sProp 𝕄 :=
  iprop((dutyTok ER (dcell o 0 j 0) 0 j ∗ dutyTok ER (dcell o 0 j 1) 0 j) ∗ dutyTok ER (dcell o 2 j 0) 0 j ∗ dutyTok ER (dcell o 2 j 1) 0 j)

omit [FloatOps F] in
/-- The tokens of device `o`'s duties named `j`, by who pays them. -/
theorem toks_pair (o j : Dev nD) :
    (bigSep Finset.univ fun i : Unit ⊕ (Fin 4 × Fin 2) => (dutyTok ER (((o : Thread nD τ), tokSem j i) : GSem nD τ sig) 0 j : sProp 𝕄)) ⊢ iprop(tokIn o j ∗ tokOwn o j) := by
  rw [bigSep_univ_sum, bigSep_univ_of_subsingleton (), bigSep_univ_prod, over_ks]
  unfold tokIn tokOwn tokSem
  show iprop(_ ∗ _) ⊢ _
  iintro ⟨Hb, H0, H1, H2, H3⟩
  isplitl [Hb H1 H3]
  · isplitl [Hb]; · iexact Hb
    isplitl [H1]; · iexact H1
    iexact H3
  isplitl [H0]; · iexact H0
  iexact H2

variable (X : Dev nD → S1024x512.Idx → Elt F .bf16) (K : Dev nD × CI → ℕ)

/-! ## What the launch deals -/

/-- What the launch element deals device `c`. -/
def G (c : Dev nD) : sProp 𝕄 :=
  iprop((bigSep Finset.univ fun i : CI => roundState ER (Rd X) (kcell (c, i)) 0)
    ∗ (bigSep Finset.univ fun i : CI => iprop(atPos ER (kcell (c, i)) 0 ∅ 0 ∗ reached ER (kcell (c, i)) 0))
    ∗ bigSep Finset.univ fun j : Dev nD => iprop(tokIn c j ∗ tokOwn c j))

/-- The ghost state at launch deals every device its part. -/
theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄))
      ⊢ bigSep Finset.univ fun c : Dev nD => bigSep Finset.univ fun j : Dev nD => iprop(tokIn c j ∗ tokOwn c j) := by
    unfold ringToks; rw [bigSep_map, bigSep_univ_prod, bigSep_univ_prod]
    exact bigSep_mono fun c _ => bigSep_mono fun j _ => toks_pair c j
  iintro HX
  imod (Rounds.fund ER (Rd X) ringCells ringToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G
  rw [bigSep_sep', bigSep_sep']
  isplitl [Hst']; · iexact Hst'
  isplitl [Hat' Hr']
  · iapply ((zip Finset.univ (fun c : Dev nD => bigSep Finset.univ fun i : CI => atPos ER (kcell (c, i)) 0 ∅ 0) fun c : Dev nD => bigSep Finset.univ fun i : CI => reached ER (kcell (c, i)) 0).trans
      (bigSep_mono fun (c : Dev nD) _ => zip Finset.univ (fun i : CI => atPos ER (kcell (c, i)) 0 ∅ 0) fun i : CI => reached ER (kcell (c, i)) 0))
    isplitl [Hat'] <;> iassumption
  iexact Htok'

/-! ## The semaphores -/

/-- The kernel's own semaphores. -/
def osem (p : Fin 4 × Fin 2 × Fin 32) : SemLoc sig := .dma (dsem p.1 p.2.2 p.2.1)

omit [FloatOps F] in
/-- A family over a device's semaphores: the barrier's member, and the copies'. -/
theorem over_CI (Φ : CI → sProp 𝕄) : bigSep Finset.univ Φ
    = iprop(Φ (.inl ()) ∗ bigSep Finset.univ fun k : Fin 4 => bigSep Finset.univ fun s : Fin 2 => bigSep Finset.univ fun j : Fin 32 => Φ (.inr (k, s, j))) := by
  rw [bigSep_univ_sum, bigSep_univ_of_subsingleton (), bigSep_univ_prod]
  refine congrArg (BI.sep _) (bigSep_congr fun k _ => ?_)
  rw [bigSep_univ_prod]

omit [FloatOps F] in
/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = bigSep Finset.univ fun k : Fin 4 => bigSep Finset.univ fun s : Fin 2 => bigSep Finset.univ fun j : Fin 32 => semVal (dcell c k j s) 0 := by
  unfold Pipeline.ownSems0
  rw [bigSep_univ_prod]
  refine bigSep_congr fun k _ => ?_
  rw [bigSep_univ_prod]; rfl

/-- Every copy semaphore lives as long as the call. -/
theorem dma_scoped : ∀ d : DmaSem sig, (SemLoc.dma d : SemLoc sig).isScoped .tc = true := by decide +kernel
/-- The staging buffers use the first two semaphores. -/
theorem stage_sem : ∀ (w : Fin cfg0.W) (s : Fin (cfg0.spec w).nbuf), ((cfg0.spec w).sem s).val < 2 := by decide

/-- The kernel's own semaphores are distinct from each other and from the staging ones. -/
theorem ownSemFacts : Pipeline.OwnSemFacts cfg0.spec osem where
  isScoped p := dma_scoped (dsem p.1 p.2.2 p.2.1)
  inj p p' h := by
    obtain ⟨k, s, j⟩ := p; obtain ⟨k', s', j'⟩ := p'
    obtain ⟨rfl, rfl, rfl⟩ := dsem_injective (SemLoc.dma.inj h)
    rfl
  disj p w s h := by
    have h1 := congrArg Fin.val (SemLoc.dma.inj h)
    have h2 : (dsem p.1 p.2.2 p.2.1).val = 2 + 64 * p.1.val + 2 * p.2.2.val + p.2.1.val := rfl
    have h3 : ((cfg0.spec w).sem s).val < 2 := stage_sem w s
    omega

omit [FloatOps F] in
/-- The only semaphore that outlives the call is the barrier. -/
theorem unscopedSems0_eq (c : Dev nD) : (unscopedSems0 c : sProp 𝕄) = semVal (bcell c) 0 := by
  unfold unscopedSems0; rw [bigSep_eq_bigSepL_of_eq [SemLoc.reg barS] (by decide +kernel) (by decide)]; rfl

omit [FloatOps F] in
/-- All of a device's semaphores at zero, as the protocol lists them. -/
theorem zeros_eq (c : Dev nD) :
    iprop(Pipeline.ownSems0 (Ix := Unit) (Name := ℕ) (U := UU) (Lvl := ℕ) (Val := Elt F) (τ := τ) osem c ∗ unscopedSems0 c) ⊢ (bigSep Finset.univ fun i : CI => semVal (kcell (c, i)) 0 : sProp 𝕄) := by
  rw [ownSems0_eq, unscopedSems0_eq, over_CI]
  iintro ⟨HS, HB⟩
  isplitl [HB]; · iexact HB
  iexact HS

omit [FloatOps F] in
/-- A device stands before the first round of each of its semaphores. -/
theorem allPos_eq (c : Dev nD) : (bigSep Finset.univ fun i : CI => (atPos ER (kcell (c, i)) 0 ∅ 0 : sProp 𝕄)) = allPos c 0 := by
  rw [over_CI, over_ks, bigSep_others c, bigSep_others c, bigSep_others c, bigSep_others c, bigSep_others c, bigSep_others c, bigSep_others c, bigSep_others c]
  rfl

/-! ## From the launch to the start -/

/-- One device's semaphores are put under the protocol. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun i : CI => iprop(∃ κ : ℕ, cellInv ER (Rd X) κ (kcell (c, i))))
          ∗ (bigSep Finset.univ fun i : CI => iprop(atPos ER (kcell (c, i)) 0 ∅ 0 ∗ reached ER (kcell (c, i)) 0))
          ∗ bigSep Finset.univ fun j : Dev nD => iprop(tokIn c j ∗ tokOwn c j)) := by
  have hinv : iprop((bigSep Finset.univ fun i : CI => semVal (kcell (c, i)) 0) ∗ bigSep Finset.univ fun i : CI => roundState ER (Rd X) (kcell (c, i)) 0)
      ⊢ (|={Set.univ}=> bigSep Finset.univ fun i : CI => iprop(∃ κ : ℕ, cellInv ER (Rd X) κ (kcell (c, i))) : sProp 𝕄) :=
    (zip _ _ _).trans ((bigSep_mono fun i _ => (Rounds.body_intro ER (Rd X) (kcell (c, i))).trans inv_alloc).trans (bigSep_fupd _ _))
  unfold G
  iintro ⟨Hos, Hus, Hst, Hat, Htok⟩
  ihave Hv := (zeros_eq (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- Every cell's invariant, and that every cell is at round 0. -/
def records : sProp 𝕄 :=
  iprop((bigSep Finset.univ fun ck : Dev nD × CI => cellInv ER (Rd X) (K ck) (kcell ck)) ∗ bigSep Finset.univ fun ck : Dev nD × CI => reached ER (kcell ck) 0)
instance records_persistent : BI.Persistent (records X K) := by unfold records; infer_instance

/-- The tokens of the duties that device `c` pays. -/
def payToks (c : Dev nD) : sProp 𝕄 := bigSep Finset.univ fun j : Dev nD => iprop(tokIn j c ∗ tokOwn c j)

/-- What the global step makes of the launch. -/
def G' (c : Dev nD) : sProp 𝕄 := iprop(∃ K, records X K ∗ allPos c 0 ∗ payToks c)

omit [FloatOps F] in
/-- Each token goes to the device that pays with it. -/
theorem toks_around : (bigSep Finset.univ fun c : Dev nD => bigSep Finset.univ fun j : Dev nD => iprop(tokIn c j ∗ tokOwn c j) : sProp 𝕄)
    ⊢ bigSep Finset.univ fun c : Dev nD => payToks c := by
  have h1 : (bigSep Finset.univ fun c : Dev nD => bigSep Finset.univ fun j : Dev nD => iprop(tokIn c j ∗ tokOwn c j) : sProp 𝕄)
      = iprop((bigSep Finset.univ fun c : Dev nD => bigSep Finset.univ fun j : Dev nD => tokIn j c) ∗ bigSep Finset.univ fun c : Dev nD => bigSep Finset.univ fun j : Dev nD => tokOwn c j) := by
    rw [bigSep_congr fun (c : Dev nD) _ => bigSep_sep' Finset.univ (fun j => tokIn c j) (fun j => tokOwn c j), bigSep_sep',
      BI.bigSep_univ_comm (fun c j : Dev nD => (tokIn c j : sProp 𝕄))]
  rw [h1]
  unfold payToks
  exact (zip _ _ _).trans (bigSep_mono fun c _ => zip Finset.univ (fun j => tokIn j c) fun j => tokOwn c j)

omit [FloatOps F] in
/-- A fact that lasts may be used for every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((zip S _ Φ).trans (bigSep_mono h))

/-- What a device has after the global step, its names left open. -/
theorem ghost_intro (c : Dev nD) : iprop(records X K ∗ allPos c 0 ∗ payToks c) ⊢ G' X c := by
  unfold G'
  iintro H
  iexists K; iexact H

/-- From what each device has put under the protocol to what each device starts with. -/
theorem regroup :
    (bigSep Finset.univ fun c : Dev nD => iprop((bigSep Finset.univ fun i : CI => iprop(∃ κ : ℕ, cellInv ER (Rd X) κ (kcell (c, i))))
          ∗ (bigSep Finset.univ fun i : CI => iprop(atPos ER (kcell (c, i)) 0 ∅ 0 ∗ reached ER (kcell (c, i)) 0))
          ∗ bigSep Finset.univ fun j : Dev nD => iprop(tokIn c j ∗ tokOwn c j)) : sProp 𝕄)
      ⊢ bigSep Finset.univ (G' X) := by
  have hsplit : (bigSep Finset.univ fun c : Dev nD => bigSep Finset.univ fun i : CI => iprop(atPos ER (kcell (c, i)) 0 ∅ 0 ∗ reached ER (kcell (c, i)) 0) : sProp 𝕄)
      = iprop((bigSep Finset.univ fun c : Dev nD => allPos c 0) ∗ bigSep Finset.univ fun ck : Dev nD × CI => reached ER (kcell ck) 0) := by
    rw [bigSep_congr fun (c : Dev nD) _ => bigSep_sep' Finset.univ (fun i : CI => (atPos ER (kcell (c, i)) 0 ∅ 0 : sProp 𝕄)) (fun i => reached ER (kcell (c, i)) 0),
      bigSep_sep', ← bigSep_univ_prod (fun ck : Dev nD × CI => (reached ER (kcell ck) 0 : sProp 𝕄)), bigSep_congr fun (c : Dev nD) _ => allPos_eq (F := F) c]
  rw [bigSep_sep', bigSep_sep', ← bigSep_univ_prod (fun ck : Dev nD × CI => iprop(∃ κ : ℕ, cellInv ER (Rd X) κ (kcell ck))), hsplit]
  iintro ⟨HI, ⟨Hat, #HR⟩, Htok⟩
  ihave HK := (BI.bigSep_exists_pi Finset.univ (fun (ck : Dev nD × CI) (κ : ℕ) => (cellInv ER (Rd X) κ (kcell ck) : sProp 𝕄))) $$ HI
  icases HK with ⟨%K, #HI⟩
  ihave Htk := (toks_around (F := F)) $$ Htok
  iapply (bigSep_with_persistent (R := records X K) fun c _ => ghost_intro X K c)
  isplitr
  · unfold records; isplitl; · iexact HI
    iexact HR
  iapply (zip Finset.univ (fun c : Dev nD => allPos c 0) payToks)
  isplitl [Hat] <;> iassumption

/-- The global step: all semaphores put under the protocol, and the tokens passed around. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

omit [FloatOps F] in
/-- The tokens device `c` pays with, kind by kind; those for itself are not needed. -/
theorem payToks_split (c : Dev nD) : (payToks c : sProp 𝕄) ⊢ iprop((bigSep Finset.univ fun r : Fin 31 => dutyTok ER (bcell (tgt c r)) 0 c)
    ∗ ((bigSep Finset.univ fun r : Fin 31 => iprop(dutyTok ER (dcell c 0 (tgt c r) 0) 0 (tgt c r) ∗ dutyTok ER (dcell (tgt c r) 1 c 0) 0 c))
      ∗ (bigSep Finset.univ fun r : Fin 31 => iprop(dutyTok ER (dcell c 2 (tgt c r) 0) 0 (tgt c r) ∗ dutyTok ER (dcell (tgt c r) 3 c 0) 0 c)))
    ∗ (bigSep Finset.univ fun r : Fin 31 => iprop(dutyTok ER (dcell c 0 (tgt c r) 1) 0 (tgt c r) ∗ dutyTok ER (dcell (tgt c r) 1 c 1) 0 c))
      ∗ (bigSep Finset.univ fun r : Fin 31 => iprop(dutyTok ER (dcell c 2 (tgt c r) 1) 0 (tgt c r) ∗ dutyTok ER (dcell (tgt c r) 3 c 1) 0 c))) := by
  unfold payToks tokIn tokOwn
  rw [bigSep_others c]
  simp only [bigSep_sep']
  iintro ⟨-, ⟨Hb, ⟨H10, H11⟩, H30, H31⟩, ⟨H00, H01⟩, H20, H21⟩
  isplitl [Hb]; · iexact Hb
  isplitl [H00 H10 H20 H30]
  · isplitl [H00 H10]
    · isplitl [H00] <;> iassumption
    isplitl [H20] <;> iassumption
  isplitl [H01 H11]
  · isplitl [H01] <;> iassumption
  isplitl [H21] <;> iassumption

/-! ## The credits -/

/-- What one signal owes a barrier. -/
theorem tally_bar (d c : Dev nD) (r : Fin 31) : TB d r (bcell c) () = if c = tgt d r then 1 else 0 := by
  unfold TB; rw [tallyAt_apply]
  refine if_congr ⟨fun h => congrArg (fun g : GSem nD τ sig => g.1.1) h.1, fun h => ⟨by rw [h], rfl⟩⟩ rfl rfl
/-- A signal owes a copy semaphore nothing. -/
theorem tally_bar_dma (d c : Dev nD) (r : Fin 31) (k j s) : TB d r (dcell c k j s) () = 0 := by
  unfold TB; rw [tallyAt_apply]
  exact if_neg fun h => by cases congrArg Prod.snd h.1
/-- A copy owes a barrier nothing. -/
theorem tally_dma_bar (t c : Dev nD) (k j s) (n : ℕ) : (tallyAt (dcell t k j s) () n : CellTallies nD τ sig Unit) (bcell c) () = 0 := by
  rw [tallyAt_apply]
  exact if_neg fun h => by cases congrArg Prod.snd h.1
/-- What one copy owes a copy semaphore. -/
theorem tally_dma (t c : Dev nD) (k k' j j' s s') (n : ℕ) : (tallyAt (dcell t k j s) () n : CellTallies nD τ sig Unit) (dcell c k' j' s') () = if c = t ∧ k' = k ∧ j' = j ∧ s' = s then n else 0 := by
  rw [tallyAt_apply]
  refine if_congr ⟨fun h => ⟨congrArg (fun g : GSem nD τ sig => g.1.1) h.1, dsem_injective (SemLoc.dma.inj (congrArg Prod.snd h.1))⟩, ?_⟩ rfl rfl
  rintro ⟨rfl, rfl, rfl, rfl⟩; exact ⟨rfl, rfl⟩

/-- A sum of what is owed, at one semaphore. -/
theorem sum_at (T : Fin 31 → CellTallies nD τ sig Unit) (g : GSem nD τ sig) : (∑ r, T r) g () = ∑ r, T r g () := by
  rw [Finset.sum_apply, Finsupp.finset_sum_apply]

/-- What the copies to array `k` of the others owe device `c`'s semaphore `(k', j, s)`. -/
theorem sum_dma (d c : Dev nD) (k k' : Fin 4) (j : Fin 32) (s s' : Fin 2) (hc : j ≠ c) :
    (∑ r : Fin 31, (tallyAt (dcell (tgt d r) k d s) () N : CellTallies nD τ sig Unit)) (dcell c k' j s') () = if k' = k ∧ d = j ∧ s' = s then N else 0 := by
  rw [sum_at, Finset.sum_congr rfl fun r _ => tally_dma (tgt d r) c k k' d j s s' N, sum_others d fun t => if c = t ∧ k' = k ∧ j = d ∧ s' = s then N else 0]
  by_cases h : k' = k ∧ d = j ∧ s' = s
  · obtain ⟨rfl, rfl, rfl⟩ := h
    rw [if_pos ⟨rfl, rfl, rfl⟩, Finset.sum_eq_single c (fun t _ ht => if_neg fun h => ht h.1.symm) (fun hn => absurd (Finset.mem_erase.mpr ⟨hc.symm, Finset.mem_univ c⟩) hn)]
    exact if_pos ⟨rfl, rfl, rfl, rfl⟩
  · rw [if_neg h]
    exact Finset.sum_eq_zero fun t _ => if_neg fun h' => h ⟨h'.2.1, h'.2.2.1.symm, h'.2.2.2⟩

/-- What device `d` owes an arrival semaphore of device `c` at launch. -/
theorem owed_dma (d c : Dev nD) (k : Fin 4) (j : Fin 32) (s : Fin 2) (hc : j ≠ c) (hk : k = 1 ∨ k = 3) : O₀ d (dcell c k j s) () = if d = j then N else 0 := by
  have hR (s') : (∑ r, TR d s' r) (dcell c k j s) () = if k = 1 ∧ d = j ∧ s = s' then N else 0 := sum_dma d c 1 k j s' s hc
  have hG (s') : (∑ r, TG d s' r) (dcell c k j s) () = if k = 3 ∧ d = j ∧ s = s' then N else 0 := sum_dma d c 3 k j s' s hc
  have hB : (∑ r, TB d r) (dcell c k j s) () = 0 := by
    rw [sum_at]; exact Finset.sum_eq_zero fun r _ => tally_bar_dma d c r k j s
  unfold O₀ O₁ O₂ O₃ O₄
  simp only [Pi.add_apply, Finsupp.add_apply, hR, hG, hB]
  by_cases hd : d = j
  · rw [if_pos hd]
    have hs : s = 0 ∨ s = 1 := (by decide : ∀ s : Fin 2, s = 0 ∨ s = 1) s
    rcases hk with rfl | rfl <;> rcases hs with rfl | rfl <;> simp [hd]
  · simp [hd]

/-- What device `d` owes device `c`'s barrier at launch. -/
theorem owed_bar (d c : Dev nD) : O₀ d (bcell c) () = if d = c then 0 else 1 := by
  have hR (s') : (∑ r, TR d s' r) (bcell c) () = 0 := by
    rw [sum_at]; exact Finset.sum_eq_zero fun r _ => tally_dma_bar (tgt d r) c 1 d s' N
  have hG (s') : (∑ r, TG d s' r) (bcell c) () = 0 := by
    rw [sum_at]; exact Finset.sum_eq_zero fun r _ => tally_dma_bar (tgt d r) c 3 d s' N
  unfold O₀ O₁ O₂ O₃ O₄
  simp only [Pi.add_apply, Finsupp.add_apply, hR, hG, Nat.zero_add]
  rw [sum_at, Finset.sum_congr rfl fun r _ => tally_bar d c r, sum_others d fun t => if c = t then 1 else 0, Finset.sum_ite_eq]
  by_cases hd : d = c
  · subst hd; simp
  · rw [if_neg hd, if_pos (Finset.mem_erase.mpr ⟨fun h => hd h.symm, Finset.mem_univ _⟩)]

/-- The credit of a barrier at launch: the 31 signals. -/
theorem launch_bar (c : Dev nD) :
    tallyOn (bcell c) (launchCredit (Pipeline.owing O₀) 0 (bcell c)) = (tallyAt (bcell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- The credit of an arrival semaphore at launch: one copy. -/
theorem launch_dma (c : Dev nD) (k : Fin 4) (j : Fin 32) (s : Fin 2) (hc : j ≠ c) (hk : k = 1 ∨ k = 3) :
    tallyOn (dcell c k j s) (launchCredit (Pipeline.owing O₀) 0 (dcell c k j s)) = (tallyAt (dcell c k j s) () N : CellTallies nD τ sig Unit) := by
  unfold tallyAt; refine congrArg _ (Finsupp.ext fun u => ?_); cases u
  rw [Pipeline.launchCredit_owing, Finsupp.single_eq_same, Finset.sum_congr rfl fun d _ => owed_dma d c k j s hc hk, Finset.sum_ite_eq' Finset.univ j fun _ => N,
    if_pos (Finset.mem_univ _)]

omit [FloatOps F] in
/-- The credit that a device starts with. -/
theorem creds (c : Dev nD) : (Pipeline.launchCred O₀ c : sProp 𝕄) ⊢ iprop(cred (tallyAt (bcell c) () 31)
    ∗ ((bigSep Finset.univ fun r : Fin 31 => cred (tallyAt (dcell c 1 (tgt c r) 0) () N)) ∗ bigSep Finset.univ fun r : Fin 31 => cred (tallyAt (dcell c 1 (tgt c r) 1) () N))
    ∗ (bigSep Finset.univ fun r : Fin 31 => cred (tallyAt (dcell c 3 (tgt c r) 0) () N)) ∗ bigSep Finset.univ fun r : Fin 31 => cred (tallyAt (dcell c 3 (tgt c r) 1) () N)) := by
  have hk (k : Fin 4) (s : Fin 2) (hk : k = 1 ∨ k = 3) :
      (bigSep Finset.univ fun j : Fin 32 => cred (tallyOn (dcell c k j s) (launchCredit (Pipeline.owing O₀) 0 (dcell c k j s))) : sProp 𝕄)
        ⊢ bigSep Finset.univ fun r : Fin 31 => cred (tallyAt (dcell c k (tgt c r) s) () N) := by
    rw [bigSep_others c]
    refine sep_elim_right.trans (Entails.of_eq (bigSep_congr fun r _ => ?_))
    rw [launch_dma c k (tgt c r) s (tgt_ne c r) hk]
  have hsub : (Pipeline.launchCred O₀ c : sProp 𝕄) ⊢ bigSep Finset.univ fun i : CI => cred (tallyOn (kcell (c, i)) (launchCredit (Pipeline.owing O₀) 0 (kcell (c, i)))) := by
    unfold Pipeline.launchCred
    refine (bigSep_subset (Finset.subset_univ (Finset.univ.map ⟨csem, csem_injective⟩))).trans ?_
    rw [bigSep_map]; exact BI.Entails.refl _
  refine hsub.trans ?_
  rw [over_CI, over_ks]
  iintro ⟨Hb, -, ⟨H10, H11⟩, -, H30, H31⟩
  isplitl [Hb]; · iapply (Entails.of_eq (congrArg cred (launch_bar c))); iexact Hb
  isplitl [H10 H11]
  · isplitl [H10]; · iapply (hk 1 0 (Or.inl rfl)); iexact H10
    iapply (hk 1 1 (Or.inl rfl)); iexact H11
  isplitl [H30]; · iapply (hk 3 0 (Or.inr rfl)); iexact H30
  iapply (hk 3 1 (Or.inr rfl)); iexact H31

/-- What device `c`'s body starts from, beside its buffers. -/
def start (c : Dev nD) : sProp 𝕄 := iprop(∃ K, Rec X K ∗ lin c)

/-- What a device's body starts from, out of what the launch supplies. -/
theorem start_intro (c : Dev nD) (R : sProp 𝕄) (P : sProp 𝕄) :
    iprop(R ∗ levAts L lv ∗ Pipeline.launchCred O₀ c ∗ P ∗ G' X c) ⊢ |={Set.univ}=> iprop(start X c ∗ emp) := by
  unfold G' start Rec lin segStart records
  iintro ⟨-, Hlev, Hcr, -, ⟨%K, ⟨HI, HR⟩, Hpos, Htok⟩⟩
  ihave Hc := (creds (F := F) c) $$ Hcr
  icases Hc with ⟨Hb, ⟨C0, C1⟩, D0, D1⟩
  ihave Ht := (payToks_split (F := F) c) $$ Htok
  icases Ht with ⟨Htb, ⟨T0, U0⟩, T1, U1⟩
  imodintro
  isplitl
  · iexists K
    isplitl [HI HR Hlev]
    · isplitl [HI]; · iexact HI
      isplitl [HR]; · iexact HR
      iexact Hlev
    isplitl [Hpos]; · iexact Hpos
    isplitl [Htb]; · iexact Htb
    isplitl [Hb]; · iexact Hb
    isplitl [T0 U0 C0 D0]
    · isplitl [T0]; · iexact T0
      isplitl [U0]; · iexact U0
      isplitl [C0] <;> iassumption
    isplitl [T1]; · iexact T1
    isplitl [U1]; · iexact U1
    isplitl [C1] <;> iassumption
  iempintro

end Cert.AllReduce

end
-- ==== Proof.Main.lean ====
/-
# The program

The kernel's launch with the body of every device: for any float values, from any memory, the program terminates with
the argument unchanged, the result at the computed contents and every semaphore at zero.
-/
module

public import proofs.«01_k».proof.Proof.Run
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- Device `c`'s block of the argument, as its staging buffer holds it. -/
def xstg (c : Dev nD) : (cc0_stg0_0 : Ref sig .tc).ty.Contents (Elt F) :=
  (win0_0.blk (0 : Fin 1)).view.read (Elt F) (m ((c : Thread nD τ).loc main_arg0))

/-- What the body holds before it runs, beside its argument and result. -/
def Φ₀ (c : Dev nD) : sProp 𝕄 := iprop(start (xstg m) c ∗ scratch c)
/-- What it holds afterwards. -/
def Φ₁ (c : Dev nD) : sProp 𝕄 := iprop(scratch c ∗ zeros c)

/-- The launch's data: the arrays at launch, what the body leaves of each, what it holds and what it owes before and after. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => OUT (xstg m)
  Φ t := match t with
    | ⟨0, _⟩ => Φ₀ m c
    | ⟨_ + 1, _⟩ => Φ₁ c
  q _ := fullShare
  owed t := match t with
    | ⟨0, _⟩ => O₀ c
    | ⟨_ + 1, _⟩ => 0

/-- The argument's block is fetched. -/
theorem fetch_0 (t : Fin cfg0.N) : (cfg0.win (0 : Fin 2)).fetch t = true := by rw [fin_N0 t]; rfl

omit [FloatOps F] in
/-- Owning a whole buffer at known contents. -/
theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-! ## The body -/

/-- A staging buffer at the contents `f`. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

/-- The kernel's body on its buffers. -/
abbrev theBody : KProg F PUnit :=
  cc0_body xM (Memref.isWhole_whole _) oM (Memref.isWhole_whole _) bM bH rM rH aM aH gM gH cc0_scratch4 cc0_scratch5 cc0_scratch6 cc0_scratch7

/-- The printed body may be replaced by the readable one. -/
theorem body_eq (c : Dev nD) (Q : PUnit → sProp 𝕄) : WPc c (theBody (F := F)) Q = WPc c (canon c >>= fun u => pure u) Q := by
  unfold theBody WPc
  rw [body_printed, bind_pure]
  simp only [Prog.lift, Prog.bind_op, Prog.bind_ret, wp_deviceId]
  rw [printedAt_eq]

/-- What the launch gives the body. -/
def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

/-- What the body gives back. -/
def bodyPost (c : Dev nD) : sProp 𝕄 :=
  iprop(Φ₁ c ∗ (dats m 0 c).owesAt () t0_0.succ ∗ stg c cc0_stg0_0 (xstg m c) ∗ stg c cc0_stg1_0 (OUT (xstg m)))

/-- The body, from what the launch gives it to what it gives back. -/
theorem sound_body (c : Dev nD) : bodyPre m c ⊢ WPc c (theBody (F := F)) (fun _ => bodyPost m c) := by
  rw [body_eq]
  unfold bodyPre Φ₀ start Dat.owesAt Pipeline.owesWithin
  rw [show (dats m 0 c).owed t0_0.castSucc = O₀ c from rfl]
  iintro ⟨⟨⟨%K, #HR, Hlin⟩, Hs⟩, ⟨%W, %hW, HO⟩, ⟨%d0, %g0, %hg0, Hx⟩, ⟨%d1, %g1, %hg1, Hout⟩⟩
  have hx : g0 = xstg m c := by rw [hg0]; unfold Dat.before; rw [if_pos (fetch_0 t0_0)]; rfl
  subst hx
  iapply (sound (xstg m) K c g1 (fun _ => bodyPost m c) fun u => pure u)
  isplitr; · iexact HR
  isplitl [Hlin]; · iexact Hlin
  isplitl [HO]; · unfold owing; iexists W; iexact HO
  isplitl [Hx]; · iexact Hx
  isplitl [Hout]; · iexact Hout
  isplitl [Hs]; · iexact Hs
  iintro ⟨Hpos, HO, Hx, Hout, Hs⟩
  unfold WPc
  rw [Prog.pure_eq_ret, wp_ret]
  imod (close (xstg m) K c) $$ [Hpos] with Hz
  · isplitr; · iexact HR
    iexact Hpos
  imodintro
  unfold bodyPost Φ₁ Dat.owesAt Pipeline.owesWithin owing
  rw [show (dats m 0 c).owed t0_0.succ = 0 from rfl]
  icases HO with ⟨%W', HO⟩
  isplitl [Hs Hz]
  · isplitl [Hs] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The launch's only body is the kernel's. -/
theorem body_run : defs₀ (F := F) Proc.tc 0 (t0_0, cfg0.slots t0_0) = theBody := rfl
/-- What is held before the only step. -/
theorem phi_first (c : Dev nD) : (dats m 0 c).Φ t0_0.castSucc = Φ₀ m c := rfl
/-- What is held after the only step. -/
theorem phi_second (c : Dev nD) : (dats m 0 c).Φ t0_0.succ = Φ₁ c := rfl
/-- The body leaves the argument's block as it was. -/
theorem after_x (c : Dev nD) : (dats m 0 c).after 0 t0_0 = xstg m c := rfl
/-- The body leaves the gathered rows in the result's block. -/
theorem after_out (c : Dev nD) : (dats m 0 c).after 1 t0_0 = OUT (xstg m) := rfl

set_option maxRecDepth 4000 in
/-- The launch's obligation on the body of each device. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  have h := sound_body m c
  unfold bodyPre bodyPost WPc at h
  rw [body_run, phi_first, phi_second, after_x, after_out]
  generalize theBody (F := F) = prog at h ⊢
  exact h

/-! ## The launch theorem's side conditions -/

/-- The launch holds both arrays whole. -/
theorem share_eq (c : Dev nD) (w : Fin cfg0.W) : (dats m 0 c).share w = fullShare := by unfold Dat.share; split <;> rfl

/-- What the body holds at first, from what the launch supplies. -/
theorem phi0_intro (c : Dev nD) :
    iprop(start (xstg m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What the body holds at last, as the launch wants it back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch zeros
  iintro ⟨Hr, Hb, Hz⟩
  isplitl [Hb]; · iexact Hb
  isplitl [Hz]; · iexact Hz
  iexact Hr

/-- The staging buffers' semaphores are at the lowest level. -/
theorem stage_level (c : Dev nD) (w : Fin cfg0.W) (s : Fin (cfg0.spec w).nbuf) : lv ((c : Thread nD τ), .dma ((cfg0.spec w).sem s)) () ≤ 0 := by
  have h := stage_sem w s
  dsimp only [lv]
  unfold decD
  rw [dif_neg (by omega)]

set_option maxRecDepth 20000 in
/-- The waits for the staging copies are allowed, whatever is still owed. -/
theorem waits (c : Dev nD) : (levAts L lv : sProp 𝕄) ⊢ Pipeline.cellsWaits cfgs (dats m) () 0 c :=
  Pipeline.cellsWaits_intro cfgs (dats m) () 0 c fun w s t => mayWait_above c _ (stage_level c w s) (by
    rcases t with ⟨_ | _, ht⟩
    · exact above_O₀ c
    · exact above_zero 0)

/-! ## The run -/

/-- The contents of device `c`'s array `w` after the run. -/
def finalA (c : Dev nD) (w : Fin cfg0.W) : Buf (Elt F) ((cfg0.win w).arr.view.loc (c : Thread nD τ)) := (dats m 0 c).arrAt w cfg0.N

/-- Each array ends at its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 4000 in
/-- Every execution of the program terminates, with each window's array at the computed contents and every semaphore at zero. -/
theorem run_main : θ_run defs (onTc (τ := τ) (main (F := F))) (s₀ m ρ) (fun r => QC m r ∧ r.2.sem = fun _ => 0) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?_)
    (hbody := ?_) (hne := ?_) (harr := ?_) (hstage := ?_) (hshare := ?_)
    (hdistinct := ?_)
    (O₀ := O₀) (howed₀ := ?_) (howedN := ?_)
    (L := L) (lv := lv) (hL := ?_) (hwaits := ?_)
    (G := G (xstg m)) (G' := G' (xstg m)) (u₀ := u₀)
    (hu₀ := ?_)
    (hglob := ?_)
    (hA := ?_) (hpf := ?_)
    (X := start (xstg m)) (Y := fun c => unscopedSems0 c) (Z := fun _ => iprop(emp))
    (hX := ?_) (hin := ?_) (hout := ?_)
    (QY := fun c s => ∀ sm : SemLoc sig, sm.isScoped .tc = false → s.sem ((c.tc : Thread nD τ), sm) = 0)
    (hY := ?_)
    (hQ := ?_)
  · exact fun _ => rfl
  · exact fun c => (body_obligation m c).loose
  · intro w; fin_cases w <;> exact Nat.succ_pos _
  · exact arr_whole0
  · exact stage_whole0
  · exact share_eq m
  · exact winFacts0.arr_inj
  · exact fun _ => rfl
  · exact fun _ => rfl
  · exact L_of_ne
  · exact waits m
  · unfold u₀
    iintro Hu
    ihave H := (ownU_pair _ _) $$ Hu
    icases H with ⟨HP, HX⟩
    imod (fund_ring (xstg m)) $$ HX with HG
    imodintro
    isplitl [HP] <;> iassumption
  · exact glob (xstg m)
  · exact fun _ _ => rfl
  · exact fun _ k => k.elim0
  · exact fun c => start_intro (xstg m) c _ _
  · exact phi0_intro m
  · exact phi1_exit m
  · intro c s'
    iintro ⟨Hu, -, HSI⟩
    iapply (Pipeline.unscopedSems0_read (X := unscopedSems0 c) (c := c) fupd_intro s')
    isplitl [Hu] <;> iassumption
  · exact fun _ h hs => ⟨fun c w => (h c).1 w, sem_eq_zero hs fun c => (h c).2.2⟩

/-- The argument's array after the run holds what it held. -/
theorem finalA_x (c : Dev nD) : finalA m c (0 : Fin 2) = m (win0_0.arr.view.loc (c : Thread nD τ)) :=
  (dats (F := F) m 0 c).arrAt_in (0 : Fin 2) rfl _

end Cert.AllReduce

end
-- ==== Proof.Value.lean ====
/-
# The value

What the program leaves, over the reals: every device's result is the sum, row by row, of the devices' blocks.
-/
module

public import proofs.«01_k».proof.Proof.Main
public import proofs.«01_k».proof.Proof.Gen.ReferenceIdeal
public import Idealize.ShloMosaic.Lib.LayoutAt
public import Idealize.ShloMosaic.Lib.Pipeline.ValueKit
public import Idealize.ShloMosaic.Lib.Claim
public import Idealize.ShloMosaic.PureOps.Ideal

@[expose] public section

set_option maxRecDepth 16384

noncomputable section

namespace Cert.AllReduce

open Cert.KernelIdeal Cert.KernelIdeal.Gen
open Idealize.ShloMosaic Idealize.ShloMosaic.TcCoe
open Idealize.SL.Sem

/-! ## The arrays, whole -/

section Arrays

variable {F : FTy → Type} [FloatOps F] (m : (ℓ : Loc nD τ sig) → Buf (Elt F) ℓ)

/-- The staged block of the argument is the argument: one block is the whole array. -/
theorem xstg_apply (c : Dev nD) (i : S1024x512.Idx) : xstg m c i = m ((c : Thread nD τ).loc main_arg0) i := by
  unfold xstg
  blk_simp
  congr 1
  funext a
  apply Fin.ext
  have h : ∀ a, win0_0.index (0 : Fin 1) a = 0 := by decide +kernel
  fin_cases a <;> (blk_simp; rw [h]; exact (Nat.zero_add _).symm ▸ rfl)

/-- The result's array after the run: one block, written whole. -/
theorem finalA_out (c : Dev nD) : finalA m c (1 : Fin 2) = OUT (xstg m) := by
  unfold finalA
  refine (dats m 0 c).arrAt_eq_of_after_last (1 : Fin 2) t0_0 (by decide +kernel) _ fun j => ?_
  blk_simp
  rfl

end Arrays

/-! ## Over the reals -/

variable (X : Dev nD → S1024x512.Idx → Elt Ideal .bf16)

/-- The argument cut into 32 chunks of 2 segments of 16 rows, read at a place: the row the place stands for. -/
theorem BX_apply (c : Dev nD) (j : Fin 32) (s : Fin 2) (q : Fin 16) (n : Fin 512) :
    BX X c (ix4 j s q n) = X c (ix2 ⟨32 * j.val + 16 * s.val + q.val, by omega⟩ n) := by
  unfold BX k0_pay1
  pointwise
  congr 2
  apply Fin.ext
  dsimp only
  omega

/-- A device's reduced chunk, read at a place: the sum over the devices of that row of theirs. -/
theorem AC_apply (c : Dev nD) (s : Fin 2) (q : Fin 16) (n : Fin 512) :
    AC X c (ix3 s q n) = ∑ k : Fin 32, X k (ix2 ⟨32 * (show Fin 32 from c).val + 16 * s.val + q.val, by omega⟩ n) := by
  unfold AC k0_pay4
  pointwise
  refine Finset.sum_congr rfl fun k _ => ?_
  exact BX_apply X k c s q n

/-- The result, read at a row: the sum over the devices of that row of theirs. -/
theorem OUT_apply (r : Fin 1024) (n : Fin 512) : OUT X (ix2 r n) = ∑ k : Fin 32, X k (ix2 r n) := by
  unfold OUT k0_pay8
  pointwise
  refine (AC_apply X _ _ _ _).trans (Finset.sum_congr rfl fun k _ => ?_)
  congr 2
  apply Fin.ext
  show 32 * (r.val / 32) + 16 * (r.val / 16 % 2) + r.val % 16 = r.val
  omega

/-! ## Against the reference -/

/-- The reference's result: the array cut into 32 blocks, widened, summed over the blocks, narrowed and widened. -/
def refOut (x : Vec Ideal Cert.ReferenceIdeal.S32768x512 .bf16) : FVec Ideal Cert.ReferenceIdeal.S1024x512 .f32 :=
  extf .f32 (truncf .bf16 (Host.reduceAdd (extf .f32 (shapeCast Cert.ReferenceIdeal.S32x1024x512 x Cert.ReferenceIdeal.Gen.shapeCasts_S32768x512_S32x1024x512) Cert.ReferenceIdeal.Gen.bitsLt_bf16_f32) (constant Cert.ReferenceIdeal.S_ .f32 0x00000000#32)
    Cert.ReferenceIdeal.Gen.reducesTo_S32x1024x512_S1024x512_d0 Cert.ReferenceIdeal.Gen.h_S_) Cert.ReferenceIdeal.Gen.bitsLt_bf16_f32) Cert.ReferenceIdeal.Gen.bitsLt_bf16_f32

/-- Where every device's argument is its block of an array, the result is the reference's on that array. -/
theorem out_eq (x : Vec Ideal Cert.ReferenceIdeal.S32768x512 .bf16) (hX : ∀ c, X c = Layout.block ⟨2, ![1024, 512]⟩ ⟨2, ![32768, 512]⟩ 0 32 c x) :
    OUT X = refOut x := by
  unfold refOut
  funext i
  obtain ⟨r, n, rfl⟩ : ∃ (r : Fin 1024) (n : Fin 512), i = ix2 r n := ⟨i 0, i 1, eq_ix2 i⟩
  rw [OUT_apply]
  pointwise
  refine Finset.sum_congr rfl fun k _ => ?_
  rw [hX k]
  shard_norm
  shard_ext

end Cert.AllReduce

end
-- ==== Proof.Same.lean ====
/-
# One text

The kernel and its reading over the reals are the same text: their bodies, and so their tables of bodies, are equal at
any float values.
-/
module

public import proofs.«01_k».proof.Kernel
public import proofs.«01_k».proof.KernelIdeal
public import proofs.«01_k».proof.Proof.Gen.Kernel
public import proofs.«01_k».proof.Proof.Gen.KernelIdeal

@[expose] public section

set_option maxRecDepth 100000

noncomputable section

namespace Cert.AllReduce

open Idealize.ShloMosaic

variable {F : FTy → Type} [FloatOps F]

/-- The two bodies are one. -/
theorem body_same : @Cert.Kernel.cc0_body F _ Cert.Kernel.Gen.facts = @Cert.KernelIdeal.cc0_body F _ Cert.KernelIdeal.Gen.facts := rfl

/-- The two kernels' tables of bodies are one: each has this body alone. -/
theorem table_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext ℓ a
  obtain ⟨ℓ, h⟩ := ℓ
  cases ℓ with
  | zero =>
    obtain ⟨t, s⟩ := a
    dsimp only
    rw [body_same]
  | succ n => exact absurd h (Nat.not_lt.2 (Nat.le_add_left _ _))

/-- The two programs' tables of bodies are one. -/
theorem defs_same : @Cert.Kernel.defs F _ Cert.Kernel.Gen.facts = @Cert.KernelIdeal.defs F _ Cert.KernelIdeal.Gen.facts := by
  unfold Cert.Kernel.defs Cert.KernelIdeal.defs
  exact congrArg _ table_same

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- The kernel, at the machine's words, runs and ends with its argument unchanged and every semaphore at zero. -/
theorem frame_kernel : Cert.quiescent_Kernel (hKernel := Cert.Kernel.Gen.facts) := fun m g _ => by
  rw [Cert.AllReduce.defs_same]
  exact (θ_run Cert.KernelIdeal.defs _ _).mono (fun _ h => ⟨fun c => (h.1 c (0 : Fin 2)).trans (Cert.AllReduce.finalA_x m c), h.2⟩)
    (Cert.AllReduce.run_main (F := Bits) m g)

/-- So does the same text read over the reals. -/
theorem frame_ideal : Cert.quiescent_KernelIdeal (hKernelIdeal := Cert.KernelIdeal.Gen.facts) := fun m g _ =>
  (θ_run Cert.KernelIdeal.defs _ _).mono (fun _ h => ⟨fun c => (h.1 c (0 : Fin 2)).trans (Cert.AllReduce.finalA_x m c), h.2⟩)
    (Cert.AllReduce.run_main (F := Ideal) m g)

/-- So does the reference, which has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the reals every device's result is the reference's, wherever the devices' arguments are the blocks of the reference's argument. -/
theorem algebraic : Cert.algebraic_KernelIdeal_ReferenceIdeal (hKernelIdeal := Cert.KernelIdeal.Gen.facts) (hReferenceIdeal := Cert.ReferenceIdeal.Gen.facts) :=
  fun m g m' g' _ hm =>
    ⟨Cert.AllReduce.refOut (m' (((0 : Dev Cert.ReferenceIdeal.nD).tc : Thread Cert.ReferenceIdeal.nD Cert.ReferenceIdeal.τ).loc Cert.ReferenceIdeal.main_arg0)),
      (θ_run Cert.KernelIdeal.defs _ _).mono (fun _ h c =>
        ⟨(h.1 c (1 : Fin 2)).trans ((Cert.AllReduce.finalA_out m c).trans
            (Cert.AllReduce.out_eq _ _ fun d => (funext fun i => Cert.AllReduce.xstg_apply m d i).trans (hm d))),
          (h.1 c (0 : Fin 2)).trans (Cert.AllReduce.finalA_x m c)⟩)
        (Cert.AllReduce.run_main (F := Ideal) m g),
      (θ_run Cert.ReferenceIdeal.defs _ _).mono (fun _ h => ⟨(h 0).1, (h 0).2⟩) (Cert.ReferenceIdeal.Value.run (F := Ideal) m' g')⟩

/-- Everything that is claimed. -/
theorem claim : Cert.Claim := ⟨Cert.Kernel.Gen.facts, Cert.KernelIdeal.Gen.facts, Cert.ReferenceIdeal.Gen.facts,
  frame_kernel, frame_ideal, frame_reference, trivial, algebraic⟩

end Cert.Proof

end
